-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Mega (m : (ℓ : Loc Cert.Mega.nD Cert.Mega.τ Cert.Mega.sig) → Buf (Elt Bits) ℓ) : Prop :=
  True

def Pre_MegaIdeal (m : (ℓ : Loc Cert.MegaIdeal.nD Cert.MegaIdeal.τ Cert.MegaIdeal.sig) → Buf (Elt Ideal) ℓ) : Prop :=
  True

def Pre_MegaRefIdeal (m : (ℓ : Loc Cert.MegaRefIdeal.nD Cert.MegaRefIdeal.τ Cert.MegaRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombRefIdeal (m : (ℓ : Loc Cert.CombRefIdeal.nD Cert.CombRefIdeal.τ Cert.CombRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Mega [hMega : Cert.Mega.Facts] : Prop :=
  ∀ (m : (ℓ : Loc Cert.Mega.nD Cert.Mega.τ Cert.Mega.sig) → Buf (Elt Bits) ℓ) (g : Dev Cert.Mega.nD → PrngReg), Pre_Mega m →
    θ_run (Cert.Mega.defs (F := Bits)) (onTc (τ := Cert.Mega.τ) (Cert.Mega.main (F := Bits))) ⟨m, fun _ => 0, g⟩ (fun r => (∀ c : Dev Cert.Mega.nD,
      r.2.mem ((c.tc : Thread Cert.Mega.nD Cert.Mega.τ).loc Cert.Mega.main_arg0) = m ((c.tc : Thread Cert.Mega.nD Cert.Mega.τ).loc Cert.Mega.main_arg0)
      ∧ r.2.mem ((c.tc : Thread Cert.Mega.nD Cert.Mega.τ).loc Cert.Mega.main_arg1) = m ((c.tc : Thread Cert.Mega.nD Cert.Mega.τ).loc Cert.Mega.main_arg1)
      ∧ r.2.mem ((c.tc : Thread Cert.Mega.nD Cert.Mega.τ).loc Cert.Mega.main_arg2) = m ((c.tc : Thread Cert.Mega.nD Cert.Mega.τ).loc Cert.Mega.main_arg2)
      ∧ r.2.mem ((c.tc : Thread Cert.Mega.nD Cert.Mega.τ).loc Cert.Mega.main_arg3) = m ((c.tc : Thread Cert.Mega.nD Cert.Mega.τ).loc Cert.Mega.main_arg3)
      ∧ r.2.mem ((c.tc : Thread Cert.Mega.nD Cert.Mega.τ).loc Cert.Mega.main_arg4) = m ((c.tc : Thread Cert.Mega.nD Cert.Mega.τ).loc Cert.Mega.main_arg4)
      ∧ r.2.mem ((c.tc : Thread Cert.Mega.nD Cert.Mega.τ).loc Cert.Mega.main_arg5) = m ((c.tc : Thread Cert.Mega.nD Cert.Mega.τ).loc Cert.Mega.main_arg5)
      ∧ r.2.mem ((c.tc : Thread Cert.Mega.nD Cert.Mega.τ).loc Cert.Mega.main_arg6) = m ((c.tc : Thread Cert.Mega.nD Cert.Mega.τ).loc Cert.Mega.main_arg6)
      ∧ r.2.mem ((c.tc : Thread Cert.Mega.nD Cert.Mega.τ).loc Cert.Mega.main_arg7) = m ((c.tc : Thread Cert.Mega.nD Cert.Mega.τ).loc Cert.Mega.main_arg7))
      ∧ r.2.sem = fun _ => 0)

def quiescent_MegaIdeal [hMegaIdeal : Cert.MegaIdeal.Facts] : Prop :=
  ∀ (m : (ℓ : Loc Cert.MegaIdeal.nD Cert.MegaIdeal.τ Cert.MegaIdeal.sig) → Buf (Elt Ideal) ℓ) (g : Dev Cert.MegaIdeal.nD → PrngReg), Pre_MegaIdeal m →
    θ_run (Cert.MegaIdeal.defs (F := Ideal)) (onTc (τ := Cert.MegaIdeal.τ) (Cert.MegaIdeal.main (F := Ideal))) ⟨m, fun _ => 0, g⟩ (fun r => (∀ c : Dev Cert.MegaIdeal.nD,
      r.2.mem ((c.tc : Thread Cert.MegaIdeal.nD Cert.MegaIdeal.τ).loc Cert.MegaIdeal.main_arg0) = m ((c.tc : Thread Cert.MegaIdeal.nD Cert.MegaIdeal.τ).loc Cert.MegaIdeal.main_arg0)
      ∧ r.2.mem ((c.tc : Thread Cert.MegaIdeal.nD Cert.MegaIdeal.τ).loc Cert.MegaIdeal.main_arg1) = m ((c.tc : Thread Cert.MegaIdeal.nD Cert.MegaIdeal.τ).loc Cert.MegaIdeal.main_arg1)
      ∧ r.2.mem ((c.tc : Thread Cert.MegaIdeal.nD Cert.MegaIdeal.τ).loc Cert.MegaIdeal.main_arg2) = m ((c.tc : Thread Cert.MegaIdeal.nD Cert.MegaIdeal.τ).loc Cert.MegaIdeal.main_arg2)
      ∧ r.2.mem ((c.tc : Thread Cert.MegaIdeal.nD Cert.MegaIdeal.τ).loc Cert.MegaIdeal.main_arg3) = m ((c.tc : Thread Cert.MegaIdeal.nD Cert.MegaIdeal.τ).loc Cert.MegaIdeal.main_arg3)
      ∧ r.2.mem ((c.tc : Thread Cert.MegaIdeal.nD Cert.MegaIdeal.τ).loc Cert.MegaIdeal.main_arg4) = m ((c.tc : Thread Cert.MegaIdeal.nD Cert.MegaIdeal.τ).loc Cert.MegaIdeal.main_arg4)
      ∧ r.2.mem ((c.tc : Thread Cert.MegaIdeal.nD Cert.MegaIdeal.τ).loc Cert.MegaIdeal.main_arg5) = m ((c.tc : Thread Cert.MegaIdeal.nD Cert.MegaIdeal.τ).loc Cert.MegaIdeal.main_arg5)
      ∧ r.2.mem ((c.tc : Thread Cert.MegaIdeal.nD Cert.MegaIdeal.τ).loc Cert.MegaIdeal.main_arg6) = m ((c.tc : Thread Cert.MegaIdeal.nD Cert.MegaIdeal.τ).loc Cert.MegaIdeal.main_arg6)
      ∧ r.2.mem ((c.tc : Thread Cert.MegaIdeal.nD Cert.MegaIdeal.τ).loc Cert.MegaIdeal.main_arg7) = m ((c.tc : Thread Cert.MegaIdeal.nD Cert.MegaIdeal.τ).loc Cert.MegaIdeal.main_arg7))
      ∧ r.2.sem = fun _ => 0)

def quiescent_MegaRefIdeal [hMegaRefIdeal : Cert.MegaRefIdeal.Facts] : Prop :=
  ∀ (m : (ℓ : Loc Cert.MegaRefIdeal.nD Cert.MegaRefIdeal.τ Cert.MegaRefIdeal.sig) → Buf (Elt Ideal) ℓ) (g : Dev Cert.MegaRefIdeal.nD → PrngReg), Pre_MegaRefIdeal m →
    θ_run (Cert.MegaRefIdeal.defs (F := Ideal)) (onTc (τ := Cert.MegaRefIdeal.τ) (Cert.MegaRefIdeal.main (F := Ideal))) ⟨m, fun _ => 0, g⟩ (fun r => (∀ c : Dev Cert.MegaRefIdeal.nD,
      r.2.mem ((c.tc : Thread Cert.MegaRefIdeal.nD Cert.MegaRefIdeal.τ).loc Cert.MegaRefIdeal.main_arg0) = m ((c.tc : Thread Cert.MegaRefIdeal.nD Cert.MegaRefIdeal.τ).loc Cert.MegaRefIdeal.main_arg0)
      ∧ r.2.mem ((c.tc : Thread Cert.MegaRefIdeal.nD Cert.MegaRefIdeal.τ).loc Cert.MegaRefIdeal.main_arg1) = m ((c.tc : Thread Cert.MegaRefIdeal.nD Cert.MegaRefIdeal.τ).loc Cert.MegaRefIdeal.main_arg1)
      ∧ r.2.mem ((c.tc : Thread Cert.MegaRefIdeal.nD Cert.MegaRefIdeal.τ).loc Cert.MegaRefIdeal.main_arg2) = m ((c.tc : Thread Cert.MegaRefIdeal.nD Cert.MegaRefIdeal.τ).loc Cert.MegaRefIdeal.main_arg2)
      ∧ r.2.mem ((c.tc : Thread Cert.MegaRefIdeal.nD Cert.MegaRefIdeal.τ).loc Cert.MegaRefIdeal.main_arg3) = m ((c.tc : Thread Cert.MegaRefIdeal.nD Cert.MegaRefIdeal.τ).loc Cert.MegaRefIdeal.main_arg3)
      ∧ r.2.mem ((c.tc : Thread Cert.MegaRefIdeal.nD Cert.MegaRefIdeal.τ).loc Cert.MegaRefIdeal.main_arg4) = m ((c.tc : Thread Cert.MegaRefIdeal.nD Cert.MegaRefIdeal.τ).loc Cert.MegaRefIdeal.main_arg4)
      ∧ r.2.mem ((c.tc : Thread Cert.MegaRefIdeal.nD Cert.MegaRefIdeal.τ).loc Cert.MegaRefIdeal.main_arg5) = m ((c.tc : Thread Cert.MegaRefIdeal.nD Cert.MegaRefIdeal.τ).loc Cert.MegaRefIdeal.main_arg5)
      ∧ r.2.mem ((c.tc : Thread Cert.MegaRefIdeal.nD Cert.MegaRefIdeal.τ).loc Cert.MegaRefIdeal.main_arg6) = m ((c.tc : Thread Cert.MegaRefIdeal.nD Cert.MegaRefIdeal.τ).loc Cert.MegaRefIdeal.main_arg6)
      ∧ r.2.mem ((c.tc : Thread Cert.MegaRefIdeal.nD Cert.MegaRefIdeal.τ).loc Cert.MegaRefIdeal.main_arg7) = m ((c.tc : Thread Cert.MegaRefIdeal.nD Cert.MegaRefIdeal.τ).loc Cert.MegaRefIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Mega_MegaIdeal : Prop :=
  True

def algebraic_MegaIdeal_MegaRefIdeal_on_routed [hMegaIdeal : Cert.MegaIdeal.Facts] [hMegaRefIdeal : Cert.MegaRefIdeal.Facts] [hOn_routed : Cert.On_routed.Facts] : Prop :=
  ∀ (m : (ℓ : Loc Cert.MegaIdeal.nD Cert.MegaIdeal.τ Cert.MegaIdeal.sig) → Buf (Elt Ideal) ℓ) (g : Dev Cert.MegaIdeal.nD → PrngReg)
    (m' : (ℓ : Loc Cert.MegaRefIdeal.nD Cert.MegaRefIdeal.τ Cert.MegaRefIdeal.sig) → Buf (Elt Ideal) ℓ) (g' : Dev Cert.MegaRefIdeal.nD → PrngReg), Pre_MegaIdeal m →
    (∀ c : Dev Cert.MegaIdeal.nD,
      m' ((c.tc : Thread Cert.MegaRefIdeal.nD Cert.MegaRefIdeal.τ).loc Cert.MegaRefIdeal.main_arg0) = m ((c.tc : Thread Cert.MegaIdeal.nD Cert.MegaIdeal.τ).loc Cert.MegaIdeal.main_arg0)
      ∧ m' ((c.tc : Thread Cert.MegaRefIdeal.nD Cert.MegaRefIdeal.τ).loc Cert.MegaRefIdeal.main_arg1) = m ((c.tc : Thread Cert.MegaIdeal.nD Cert.MegaIdeal.τ).loc Cert.MegaIdeal.main_arg1)
      ∧ m' ((c.tc : Thread Cert.MegaRefIdeal.nD Cert.MegaRefIdeal.τ).loc Cert.MegaRefIdeal.main_arg2) = m ((c.tc : Thread Cert.MegaIdeal.nD Cert.MegaIdeal.τ).loc Cert.MegaIdeal.main_arg2)
      ∧ m' ((c.tc : Thread Cert.MegaRefIdeal.nD Cert.MegaRefIdeal.τ).loc Cert.MegaRefIdeal.main_arg3) = m ((c.tc : Thread Cert.MegaIdeal.nD Cert.MegaIdeal.τ).loc Cert.MegaIdeal.main_arg3)
      ∧ m' ((c.tc : Thread Cert.MegaRefIdeal.nD Cert.MegaRefIdeal.τ).loc Cert.MegaRefIdeal.main_arg4) = m ((c.tc : Thread Cert.MegaIdeal.nD Cert.MegaIdeal.τ).loc Cert.MegaIdeal.main_arg4)
      ∧ m' ((c.tc : Thread Cert.MegaRefIdeal.nD Cert.MegaRefIdeal.τ).loc Cert.MegaRefIdeal.main_arg5) = m ((c.tc : Thread Cert.MegaIdeal.nD Cert.MegaIdeal.τ).loc Cert.MegaIdeal.main_arg5)
      ∧ m' ((c.tc : Thread Cert.MegaRefIdeal.nD Cert.MegaRefIdeal.τ).loc Cert.MegaRefIdeal.main_arg6) = m ((c.tc : Thread Cert.MegaIdeal.nD Cert.MegaIdeal.τ).loc Cert.MegaIdeal.main_arg6)
      ∧ m' ((c.tc : Thread Cert.MegaRefIdeal.nD Cert.MegaRefIdeal.τ).loc Cert.MegaRefIdeal.main_arg7) = m ((c.tc : Thread Cert.MegaIdeal.nD Cert.MegaIdeal.τ).loc Cert.MegaIdeal.main_arg7)) →
    ∃ (v0 : (c : Dev Cert.MegaIdeal.nD) → Buf (Elt Ideal) ((c.tc : Thread Cert.MegaIdeal.nD Cert.MegaIdeal.τ).loc Cert.MegaIdeal.main_v8_0)) (v1 : (c : Dev Cert.MegaIdeal.nD) → Buf (Elt Ideal) ((c.tc : Thread Cert.MegaIdeal.nD Cert.MegaIdeal.τ).loc Cert.MegaIdeal.main_v8_1)),
      θ_run (Cert.MegaIdeal.defs (F := Ideal)) (onTc (τ := Cert.MegaIdeal.τ) (Cert.MegaIdeal.main (F := Ideal))) ⟨m, fun _ => 0, g⟩ (fun r => ∀ c : Dev Cert.MegaIdeal.nD,
          (∀ i : (⟨2, ![2048, 768]⟩ : Shape).Idx, (Cert.On_routed.fn (F := Ideal) (m ((c.tc : Thread Cert.MegaIdeal.nD Cert.MegaIdeal.τ).loc Cert.MegaIdeal.main_arg0)) (m ((c.tc : Thread Cert.MegaIdeal.nD Cert.MegaIdeal.τ).loc Cert.MegaIdeal.main_arg1)) (m ((c.tc : Thread Cert.MegaIdeal.nD Cert.MegaIdeal.τ).loc Cert.MegaIdeal.main_arg2)) (m ((c.tc : Thread Cert.MegaIdeal.nD Cert.MegaIdeal.τ).loc Cert.MegaIdeal.main_arg3)) (m ((c.tc : Thread Cert.MegaIdeal.nD Cert.MegaIdeal.τ).loc Cert.MegaIdeal.main_arg4)) (m ((c.tc : Thread Cert.MegaIdeal.nD Cert.MegaIdeal.τ).loc Cert.MegaIdeal.main_arg5)) (m ((c.tc : Thread Cert.MegaIdeal.nD Cert.MegaIdeal.τ).loc Cert.MegaIdeal.main_arg6)) (m ((c.tc : Thread Cert.MegaIdeal.nD Cert.MegaIdeal.τ).loc Cert.MegaIdeal.main_arg7))).1 i = 1#1 → r.2.mem ((c.tc : Thread Cert.MegaIdeal.nD Cert.MegaIdeal.τ).loc Cert.MegaIdeal.main_v8_0) i = v0 c i)
          ∧ (∀ i : (⟨2, ![2048, 128]⟩ : Shape).Idx, (Cert.On_routed.fn (F := Ideal) (m ((c.tc : Thread Cert.MegaIdeal.nD Cert.MegaIdeal.τ).loc Cert.MegaIdeal.main_arg0)) (m ((c.tc : Thread Cert.MegaIdeal.nD Cert.MegaIdeal.τ).loc Cert.MegaIdeal.main_arg1)) (m ((c.tc : Thread Cert.MegaIdeal.nD Cert.MegaIdeal.τ).loc Cert.MegaIdeal.main_arg2)) (m ((c.tc : Thread Cert.MegaIdeal.nD Cert.MegaIdeal.τ).loc Cert.MegaIdeal.main_arg3)) (m ((c.tc : Thread Cert.MegaIdeal.nD Cert.MegaIdeal.τ).loc Cert.MegaIdeal.main_arg4)) (m ((c.tc : Thread Cert.MegaIdeal.nD Cert.MegaIdeal.τ).loc Cert.MegaIdeal.main_arg5)) (m ((c.tc : Thread Cert.MegaIdeal.nD Cert.MegaIdeal.τ).loc Cert.MegaIdeal.main_arg6)) (m ((c.tc : Thread Cert.MegaIdeal.nD Cert.MegaIdeal.τ).loc Cert.MegaIdeal.main_arg7))).2 i = 1#1 → r.2.mem ((c.tc : Thread Cert.MegaIdeal.nD Cert.MegaIdeal.τ).loc Cert.MegaIdeal.main_v8_1) i = v1 c i)
          ∧ r.2.mem ((c.tc : Thread Cert.MegaIdeal.nD Cert.MegaIdeal.τ).loc Cert.MegaIdeal.main_arg0) = m ((c.tc : Thread Cert.MegaIdeal.nD Cert.MegaIdeal.τ).loc Cert.MegaIdeal.main_arg0)
          ∧ r.2.mem ((c.tc : Thread Cert.MegaIdeal.nD Cert.MegaIdeal.τ).loc Cert.MegaIdeal.main_arg1) = m ((c.tc : Thread Cert.MegaIdeal.nD Cert.MegaIdeal.τ).loc Cert.MegaIdeal.main_arg1)
          ∧ r.2.mem ((c.tc : Thread Cert.MegaIdeal.nD Cert.MegaIdeal.τ).loc Cert.MegaIdeal.main_arg2) = m ((c.tc : Thread Cert.MegaIdeal.nD Cert.MegaIdeal.τ).loc Cert.MegaIdeal.main_arg2)
          ∧ r.2.mem ((c.tc : Thread Cert.MegaIdeal.nD Cert.MegaIdeal.τ).loc Cert.MegaIdeal.main_arg3) = m ((c.tc : Thread Cert.MegaIdeal.nD Cert.MegaIdeal.τ).loc Cert.MegaIdeal.main_arg3)
          ∧ r.2.mem ((c.tc : Thread Cert.MegaIdeal.nD Cert.MegaIdeal.τ).loc Cert.MegaIdeal.main_arg4) = m ((c.tc : Thread Cert.MegaIdeal.nD Cert.MegaIdeal.τ).loc Cert.MegaIdeal.main_arg4)
          ∧ r.2.mem ((c.tc : Thread Cert.MegaIdeal.nD Cert.MegaIdeal.τ).loc Cert.MegaIdeal.main_arg5) = m ((c.tc : Thread Cert.MegaIdeal.nD Cert.MegaIdeal.τ).loc Cert.MegaIdeal.main_arg5)
          ∧ r.2.mem ((c.tc : Thread Cert.MegaIdeal.nD Cert.MegaIdeal.τ).loc Cert.MegaIdeal.main_arg6) = m ((c.tc : Thread Cert.MegaIdeal.nD Cert.MegaIdeal.τ).loc Cert.MegaIdeal.main_arg6)
          ∧ r.2.mem ((c.tc : Thread Cert.MegaIdeal.nD Cert.MegaIdeal.τ).loc Cert.MegaIdeal.main_arg7) = m ((c.tc : Thread Cert.MegaIdeal.nD Cert.MegaIdeal.τ).loc Cert.MegaIdeal.main_arg7))
      ∧ θ_run (Cert.MegaRefIdeal.defs (F := Ideal)) (onTc (τ := Cert.MegaRefIdeal.τ) (Cert.MegaRefIdeal.main (F := Ideal))) ⟨m', fun _ => 0, g'⟩ (fun r => ∀ c : Dev Cert.MegaRefIdeal.nD,
          (∀ i : (⟨2, ![2048, 768]⟩ : Shape).Idx, (Cert.On_routed.fn (F := Ideal) (m ((c.tc : Thread Cert.MegaIdeal.nD Cert.MegaIdeal.τ).loc Cert.MegaIdeal.main_arg0)) (m ((c.tc : Thread Cert.MegaIdeal.nD Cert.MegaIdeal.τ).loc Cert.MegaIdeal.main_arg1)) (m ((c.tc : Thread Cert.MegaIdeal.nD Cert.MegaIdeal.τ).loc Cert.MegaIdeal.main_arg2)) (m ((c.tc : Thread Cert.MegaIdeal.nD Cert.MegaIdeal.τ).loc Cert.MegaIdeal.main_arg3)) (m ((c.tc : Thread Cert.MegaIdeal.nD Cert.MegaIdeal.τ).loc Cert.MegaIdeal.main_arg4)) (m ((c.tc : Thread Cert.MegaIdeal.nD Cert.MegaIdeal.τ).loc Cert.MegaIdeal.main_arg5)) (m ((c.tc : Thread Cert.MegaIdeal.nD Cert.MegaIdeal.τ).loc Cert.MegaIdeal.main_arg6)) (m ((c.tc : Thread Cert.MegaIdeal.nD Cert.MegaIdeal.τ).loc Cert.MegaIdeal.main_arg7))).1 i = 1#1 → r.2.mem ((c.tc : Thread Cert.MegaRefIdeal.nD Cert.MegaRefIdeal.τ).loc Cert.MegaRefIdeal.main_v52) i = v0 c i)
          ∧ (∀ i : (⟨2, ![2048, 128]⟩ : Shape).Idx, (Cert.On_routed.fn (F := Ideal) (m ((c.tc : Thread Cert.MegaIdeal.nD Cert.MegaIdeal.τ).loc Cert.MegaIdeal.main_arg0)) (m ((c.tc : Thread Cert.MegaIdeal.nD Cert.MegaIdeal.τ).loc Cert.MegaIdeal.main_arg1)) (m ((c.tc : Thread Cert.MegaIdeal.nD Cert.MegaIdeal.τ).loc Cert.MegaIdeal.main_arg2)) (m ((c.tc : Thread Cert.MegaIdeal.nD Cert.MegaIdeal.τ).loc Cert.MegaIdeal.main_arg3)) (m ((c.tc : Thread Cert.MegaIdeal.nD Cert.MegaIdeal.τ).loc Cert.MegaIdeal.main_arg4)) (m ((c.tc : Thread Cert.MegaIdeal.nD Cert.MegaIdeal.τ).loc Cert.MegaIdeal.main_arg5)) (m ((c.tc : Thread Cert.MegaIdeal.nD Cert.MegaIdeal.τ).loc Cert.MegaIdeal.main_arg6)) (m ((c.tc : Thread Cert.MegaIdeal.nD Cert.MegaIdeal.τ).loc Cert.MegaIdeal.main_arg7))).2 i = 1#1 → r.2.mem ((c.tc : Thread Cert.MegaRefIdeal.nD Cert.MegaRefIdeal.τ).loc Cert.MegaRefIdeal.main_v85) i = v1 c i)
          ∧ r.2.mem ((c.tc : Thread Cert.MegaRefIdeal.nD Cert.MegaRefIdeal.τ).loc Cert.MegaRefIdeal.main_arg0) = m' ((c.tc : Thread Cert.MegaRefIdeal.nD Cert.MegaRefIdeal.τ).loc Cert.MegaRefIdeal.main_arg0)
          ∧ r.2.mem ((c.tc : Thread Cert.MegaRefIdeal.nD Cert.MegaRefIdeal.τ).loc Cert.MegaRefIdeal.main_arg1) = m' ((c.tc : Thread Cert.MegaRefIdeal.nD Cert.MegaRefIdeal.τ).loc Cert.MegaRefIdeal.main_arg1)
          ∧ r.2.mem ((c.tc : Thread Cert.MegaRefIdeal.nD Cert.MegaRefIdeal.τ).loc Cert.MegaRefIdeal.main_arg2) = m' ((c.tc : Thread Cert.MegaRefIdeal.nD Cert.MegaRefIdeal.τ).loc Cert.MegaRefIdeal.main_arg2)
          ∧ r.2.mem ((c.tc : Thread Cert.MegaRefIdeal.nD Cert.MegaRefIdeal.τ).loc Cert.MegaRefIdeal.main_arg3) = m' ((c.tc : Thread Cert.MegaRefIdeal.nD Cert.MegaRefIdeal.τ).loc Cert.MegaRefIdeal.main_arg3)
          ∧ r.2.mem ((c.tc : Thread Cert.MegaRefIdeal.nD Cert.MegaRefIdeal.τ).loc Cert.MegaRefIdeal.main_arg4) = m' ((c.tc : Thread Cert.MegaRefIdeal.nD Cert.MegaRefIdeal.τ).loc Cert.MegaRefIdeal.main_arg4)
          ∧ r.2.mem ((c.tc : Thread Cert.MegaRefIdeal.nD Cert.MegaRefIdeal.τ).loc Cert.MegaRefIdeal.main_arg5) = m' ((c.tc : Thread Cert.MegaRefIdeal.nD Cert.MegaRefIdeal.τ).loc Cert.MegaRefIdeal.main_arg5)
          ∧ r.2.mem ((c.tc : Thread Cert.MegaRefIdeal.nD Cert.MegaRefIdeal.τ).loc Cert.MegaRefIdeal.main_arg6) = m' ((c.tc : Thread Cert.MegaRefIdeal.nD Cert.MegaRefIdeal.τ).loc Cert.MegaRefIdeal.main_arg6)
          ∧ r.2.mem ((c.tc : Thread Cert.MegaRefIdeal.nD Cert.MegaRefIdeal.τ).loc Cert.MegaRefIdeal.main_arg7) = m' ((c.tc : Thread Cert.MegaRefIdeal.nD Cert.MegaRefIdeal.τ).loc Cert.MegaRefIdeal.main_arg7))

def preserves_First_FirstIdeal : Prop :=
  True

def algebraic_FirstIdeal_FirstRefIdeal_on_filled [hFirstIdeal : Cert.FirstIdeal.Facts] [hFirstRefIdeal : Cert.FirstRefIdeal.Facts] [hOn_filled : Cert.On_filled.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)) →
    ∃ (v0 : (c : Dev Cert.FirstIdeal.nD) → Buf (Elt Ideal) ((c.tc : Thread Cert.FirstIdeal.nD Cert.FirstIdeal.τ).loc Cert.FirstIdeal.main_v4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          (∀ i : (⟨2, ![8192, 768]⟩ : Shape).Idx, (Cert.On_filled.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))) i = 1#1 → r.2.mem ((c.tc : Thread Cert.FirstIdeal.nD Cert.FirstIdeal.τ).loc Cert.FirstIdeal.main_v4) i = v0 c i)
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          (∀ i : (⟨2, ![8192, 768]⟩ : Shape).Idx, (Cert.On_filled.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))) i = 1#1 → r.2.mem ((c.tc : Thread Cert.FirstRefIdeal.nD Cert.FirstRefIdeal.τ).loc Cert.FirstRefIdeal.main_v39) i = v0 c i)
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7))

def preserves_Moe_MoeIdeal : Prop :=
  True

def algebraic_MoeIdeal_MoeRefIdeal_on_filled [hMoeIdeal : Cert.MoeIdeal.Facts] [hMoeRefIdeal : Cert.MoeRefIdeal.Facts] [hOn_filled : Cert.On_filled.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![8192, 768]⟩ : Shape).Idx, (Cert.On_filled.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) i = 1#1 → r.2.mem ((c.tc : Thread Cert.MoeIdeal.nD Cert.MoeIdeal.τ).loc Cert.MoeIdeal.main_v4) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          (∀ i : (⟨2, ![8192, 768]⟩ : Shape).Idx, (Cert.On_filled.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) i = 1#1 → r.2.mem ((c.tc : Thread Cert.MoeRefIdeal.nD Cert.MoeRefIdeal.τ).loc Cert.MoeRefIdeal.main_v39) i = v0 c i)
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Comb_CombIdeal : Prop :=
  True

def algebraic_CombIdeal_CombRefIdeal [hCombIdeal : Cert.CombIdeal.Facts] [hCombRefIdeal : Cert.CombRefIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)) →
    ∃ (v0 : (c : Dev Cert.CombIdeal.nD) → Buf (Elt Ideal) ((c.tc : Thread Cert.CombIdeal.nD Cert.CombIdeal.τ).loc Cert.CombIdeal.main_v2)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v2) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v27) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4))

def Claim : Prop :=
  ∃ (hQkv : Cert.Qkv.Facts) (hQkvIdeal : Cert.QkvIdeal.Facts) (hQkvRefIdeal : Cert.QkvRefIdeal.Facts) (hMega : Cert.Mega.Facts) (hMegaIdeal : Cert.MegaIdeal.Facts) (hMegaRefIdeal : Cert.MegaRefIdeal.Facts) (hFirst : Cert.First.Facts) (hFirstIdeal : Cert.FirstIdeal.Facts) (hFirstRefIdeal : Cert.FirstRefIdeal.Facts) (hMoe : Cert.Moe.Facts) (hMoeIdeal : Cert.MoeIdeal.Facts) (hMoeRefIdeal : Cert.MoeRefIdeal.Facts) (hComb : Cert.Comb.Facts) (hCombIdeal : Cert.CombIdeal.Facts) (hCombRefIdeal : Cert.CombRefIdeal.Facts) (hOn_routed : Cert.On_routed.Facts) (hOn_filled : Cert.On_filled.Facts),
    quiescent_Qkv (hQkv := hQkv)
    ∧ quiescent_QkvIdeal (hQkvIdeal := hQkvIdeal)
    ∧ quiescent_QkvRefIdeal (hQkvRefIdeal := hQkvRefIdeal)
    ∧ quiescent_Mega (hMega := hMega)
    ∧ quiescent_MegaIdeal (hMegaIdeal := hMegaIdeal)
    ∧ quiescent_MegaRefIdeal (hMegaRefIdeal := hMegaRefIdeal)
    ∧ quiescent_First (hFirst := hFirst)
    ∧ quiescent_FirstIdeal (hFirstIdeal := hFirstIdeal)
    ∧ quiescent_FirstRefIdeal (hFirstRefIdeal := hFirstRefIdeal)
    ∧ quiescent_Moe (hMoe := hMoe)
    ∧ quiescent_MoeIdeal (hMoeIdeal := hMoeIdeal)
    ∧ quiescent_MoeRefIdeal (hMoeRefIdeal := hMoeRefIdeal)
    ∧ quiescent_Comb (hComb := hComb)
    ∧ quiescent_CombIdeal (hCombIdeal := hCombIdeal)
    ∧ quiescent_CombRefIdeal (hCombRefIdeal := hCombRefIdeal)
    ∧ preserves_Qkv_QkvIdeal
    ∧ algebraic_QkvIdeal_QkvRefIdeal (hQkvIdeal := hQkvIdeal) (hQkvRefIdeal := hQkvRefIdeal)
    ∧ preserves_Mega_MegaIdeal
    ∧ algebraic_MegaIdeal_MegaRefIdeal_on_routed (hMegaIdeal := hMegaIdeal) (hMegaRefIdeal := hMegaRefIdeal) (hOn_routed := hOn_routed)
    ∧ preserves_First_FirstIdeal
    ∧ algebraic_FirstIdeal_FirstRefIdeal_on_filled (hFirstIdeal := hFirstIdeal) (hFirstRefIdeal := hFirstRefIdeal) (hOn_filled := hOn_filled)
    ∧ preserves_Moe_MoeIdeal
    ∧ algebraic_MoeIdeal_MoeRefIdeal_on_filled (hMoeIdeal := hMoeIdeal) (hMoeRefIdeal := hMoeRefIdeal) (hOn_filled := hOn_filled)
    ∧ preserves_Comb_CombIdeal
    ∧ algebraic_CombIdeal_CombRefIdeal (hCombIdeal := hCombIdeal) (hCombRefIdeal := hCombRefIdeal)
-- ==== On_filled.lean ====
abbrev S8 : Shape := ⟨1, ![8]⟩
abbrev S8192x768 : Shape := ⟨2, ![8192, 768]⟩
abbrev S8x768 : Shape := ⟨2, ![8, 768]⟩
abbrev S2x8x768x3072 : Shape := ⟨4, ![2, 8, 768, 3072]⟩
abbrev S8x3072 : Shape := ⟨2, ![8, 3072]⟩
abbrev S2x8x3072x768 : Shape := ⟨4, ![2, 8, 3072, 768]⟩
abbrev S8x1024x768 : Shape := ⟨3, ![8, 1024, 768]⟩

class Facts : Prop where
  bcast_S8_S8x1024x768_0 : S8.BroadcastsInDim S8x1024x768 (![0] : Fin 1 → Fin S8x1024x768.rank)
  shapeCasts_S8x1024x768_S8192x768 : S8x1024x768.ShapeCasts S8192x768

variable [Facts]

def fn {F : FTy → Type} [FloatOps F] (main_arg0 : IVec S8 32) (main_arg1 : FVec F S8192x768 .f32) (main_arg2 : FVec F S8x768 .f32) (main_arg3 : FVec F S8x768 .f32) (main_arg4 : FVec F S2x8x768x3072 .f32) (main_arg5 : FVec F S8x3072 .f32) (main_arg6 : FVec F S2x8x3072x768 .f32) (main_arg7 : FVec F S8x768 .f32) : IVec S8192x768 1 :=
  let main_v0 : IVec S8x1024x768 32 := iotaInDim S8x1024x768 32 1
  let main_v1 : IVec S8x1024x768 32 := broadcastInDim S8x1024x768 ![0] bcast_S8_S8x1024x768_0 main_arg0
  let main_v2 : IVec S8x1024x768 1 := cmpi .slt main_v0 main_v1
  let main_v3 : IVec S8192x768 1 := shapeCast S8192x768 main_v2 shapeCasts_S8x1024x768_S8192x768
  main_v3
-- ==== On_routed.lean ====
abbrev S2048x2304 : Shape := ⟨2, ![2048, 2304]⟩
abbrev S768x768 : Shape := ⟨2, ![768, 768]⟩
abbrev S768 : Shape := ⟨1, ![768]⟩
abbrev S2048x768 : Shape := ⟨2, ![2048, 768]⟩
abbrev S768x8 : Shape := ⟨2, ![768, 8]⟩
abbrev S8 : Shape := ⟨1, ![8]⟩
abbrev S2048x12x64 : Shape := ⟨3, ![2048, 12, 64]⟩
abbrev S12x2048x64 : Shape := ⟨3, ![12, 2048, 64]⟩
abbrev S12x64x2048 : Shape := ⟨3, ![12, 64, 2048]⟩
abbrev S12x2048x2048 : Shape := ⟨3, ![12, 2048, 2048]⟩
abbrev S_ : Shape := ⟨0, ![]⟩
abbrev S12x2048 : Shape := ⟨2, ![12, 2048]⟩
abbrev S12x2048x1 : Shape := ⟨3, ![12, 2048, 1]⟩
abbrev S1x768 : Shape := ⟨2, ![1, 768]⟩
abbrev S2048 : Shape := ⟨1, ![2048]⟩
abbrev S2048x1 : Shape := ⟨2, ![2048, 1]⟩
abbrev S2048x8 : Shape := ⟨2, ![2048, 8]⟩
abbrev S1x8 : Shape := ⟨2, ![1, 8]⟩
abbrev S2048x128 : Shape := ⟨2, ![2048, 128]⟩

class Facts : Prop where
  slices_S2048x2304_S2048x768_0_0 : S2048x2304.Slices ![0, 0] S2048x768
  slices_S2048x2304_S2048x768_0_768 : S2048x2304.Slices ![0, 768] S2048x768
  slices_S2048x2304_S2048x768_0_1536 : S2048x2304.Slices ![0, 1536] S2048x768
  shapeCasts_S2048x768_S2048x12x64 : S2048x768.ShapeCasts S2048x12x64
  transposes_S2048x12x64_S12x2048x64_1_0_2 : S2048x12x64.Transposes [1, 0, 2] S12x2048x64
  transposes_S12x2048x64_S12x64x2048_0_2_1 : S12x2048x64.Transposes [0, 2, 1] S12x64x2048
  bcast_S_S12x2048x2048 : S_.BroadcastsInDim S12x2048x2048 (![] : Fin 0 → Fin S12x2048x2048.rank)
  reducesTo_S12x2048x2048_S12x2048_d2 : S12x2048x2048.ReducesTo [2] S12x2048
  h_S_ : 0 < S_.numel
  bcast_S_S12x2048 : S_.BroadcastsInDim S12x2048 (![] : Fin 0 → Fin S12x2048.rank)
  bcast_S12x2048_S12x2048x1_0_1 : S12x2048.BroadcastsInDim S12x2048x1 (![0, 1] : Fin 2 → Fin S12x2048x1.rank)
  bcast_S12x2048x1_S12x2048x2048_0_1_2 : S12x2048x1.BroadcastsInDim S12x2048x2048 (![0, 1, 2] : Fin 3 → Fin S12x2048x2048.rank)
  transposes_S12x2048x64_S2048x12x64_1_0_2 : S12x2048x64.Transposes [1, 0, 2] S2048x12x64
  shapeCasts_S2048x12x64_S2048x768 : S2048x12x64.ShapeCasts S2048x768
  transposes_S768x768_S768x768_1_0 : S768x768.Transposes [1, 0] S768x768
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  reducesTo_S2048x768_S2048_d1 : S2048x768.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x768_0_1 : S2048x1.BroadcastsInDim S2048x768 (![0, 1] : Fin 2 → Fin S2048x768.rank)
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  reducesTo_S2048x8_S_d0_1 : S2048x8.ReducesTo [0, 1] S_
  bcast_S_S2048x768 : S_.BroadcastsInDim S2048x768 (![] : Fin 0 → Fin S2048x768.rank)
  bcast_S_S2048x128 : S_.BroadcastsInDim S2048x128 (![] : Fin 0 → Fin S2048x128.rank)
  dot_S12x2048x64_S12x64x2048_S12x2048x2048_2_1_1_2_0_0_wf : DotDims.WF S12x2048x64 S12x64x2048 S12x2048x2048 [2] [1] [1] [2] [0] [0]
  dot_S12x2048x2048_S12x2048x64_S12x2048x64_2_1_1_2_0_0_wf : DotDims.WF S12x2048x2048 S12x2048x64 S12x2048x64 [2] [1] [1] [2] [0] [0]
  dot_S2048x768_S768x768_S2048x768_1_0_0_1_n_n_wf : DotDims.WF S2048x768 S768x768 S2048x768 [1] [0] [0] [1] [] []
  dot_S2048x768_S768x8_S2048x8_1_0_0_1_n_n_wf : DotDims.WF S2048x768 S768x8 S2048x8 [1] [0] [0] [1] [] []

variable [Facts]

def dot_S12x2048x64_S12x64x2048_S12x2048x2048_2_1_1_2_0_0 : DotDims S12x2048x64 S12x64x2048 S12x2048x2048 where
  lhsContracting := [2]
  rhsContracting := [1]
  lhsNonContracting := [1]
  rhsNonContracting := [2]
  lhsBatch := [0]
  rhsBatch := [0]
  wf := dot_S12x2048x64_S12x64x2048_S12x2048x2048_2_1_1_2_0_0_wf
def dot_S12x2048x2048_S12x2048x64_S12x2048x64_2_1_1_2_0_0 : DotDims S12x2048x2048 S12x2048x64 S12x2048x64 where
  lhsContracting := [2]
  rhsContracting := [1]
  lhsNonContracting := [1]
  rhsNonContracting := [2]
  lhsBatch := [0]
  rhsBatch := [0]
  wf := dot_S12x2048x2048_S12x2048x64_S12x2048x64_2_1_1_2_0_0_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S2048x768_S768x8_S2048x8_1_0_0_1_n_n : DotDims S2048x768 S768x8 S2048x8 where
  lhsContracting := [1]
  rhsContracting := [0]
  lhsNonContracting := [0]
  rhsNonContracting := [1]
  lhsBatch := []
  rhsBatch := []
  wf := dot_S2048x768_S768x8_S2048x8_1_0_0_1_n_n_wf
def fn_where {F : FTy → Type} [FloatOps F] (arg0 : IVec S_ 1) (arg1 : FVec F S2048x1 .f32) (arg2 : FVec F S_ .f32) : FVec F S2048x1 .f32 :=
  let v0 : FVec F S_ .f32 := id arg2
  let v1 : FVec F S2048x1 .f32 := broadcastInDim S2048x1 ![] bcast_S_S2048x1 v0
  let v2 : FVec F S2048x1 .f32 := (fun p a b => select (broadcastInDim S2048x1 ![] bcast_S_S2048x1 p) a b) arg0 arg1 v1
  v2

def fn_var {F : FTy → Type} [FloatOps F] (arg0 : FVec F S2048x768 .f32) (arg1 : IVec S_ 32) : FVec F S2048x1 .f32 :=
  let cst : FVec F S_ .f32 := constant S_ .f32 0x00000000#32
  let v0 : FVec F S2048 .f32 := (fun x v => Host.reduceAdd x v reducesTo_S2048x768_S2048_d1 h_S_) arg0 cst
  let v1 : FVec F S2048x1 .f32 := broadcastInDim S2048x1 ![0] bcast_S2048_S2048x1_0 v0
  let cst_0 : FVec F S_ .f32 := constant S_ .f32 0x44400000#32
  let v2 : FVec F S2048x1 .f32 := broadcastInDim S2048x1 ![] bcast_S_S2048x1 cst_0
  let v3 : FVec F S2048x1 .f32 := Host.divf v1 v2
  let v4 : FVec F S2048x768 .f32 := broadcastInDim S2048x768 ![0, 1] bcast_S2048x1_S2048x768_0_1 v3
  let v5 : FVec F S2048x768 .f32 := subf arg0 v4
  let v6 : FVec F S2048x768 .f32 := mulf v5 v5
  let v7 : FVec F S_ .f32 := sitofp .f32 arg1
  let cst_1 : FVec F S_ .f32 := constant S_ .f32 0x44400000#32
  let v8 : FVec F S_ .f32 := subf cst_1 v7
  let cst_2 : FVec F S_ .f32 := constant S_ .f32 0x00000000#32
  let v9 : FVec F S2048 .f32 := (fun x v => Host.reduceAdd x v reducesTo_S2048x768_S2048_d1 h_S_) v6 cst_2
  let v10 : FVec F S2048x1 .f32 := broadcastInDim S2048x1 ![0] bcast_S2048_S2048x1_0 v9
  let v11 : FVec F S2048x1 .f32 := broadcastInDim S2048x1 ![] bcast_S_S2048x1 v8
  let v12 : FVec F S2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S2048x1 .f32 := fn_where (F := F) v13 v12 cst_4
  v14

def fn_part3 {F : FTy → Type} [FloatOps F] (main_v61 : IVec S2048x8 1) : IVec S2048x768 1 × IVec S2048x128 1 :=
  let main_c_8 : IVec S_ 1 := constantI S_ 1 1#1
  let main_v62 : IVec S_ 1 := (fun x v => Host.reduce IntOp.andi x v reducesTo_S2048x8_S_d0_1 h_S_) main_v61 main_c_8
  let main_c_9 : IVec S_ 1 := constantI S_ 1 1#1
  let main_v63 : IVec S2048x768 1 := broadcastInDim S2048x768 ![] bcast_S_S2048x768 main_c_9
  let main_v64 : IVec S2048x128 1 := broadcastInDim S2048x128 ![] bcast_S_S2048x128 main_v62
  (main_v63, main_v64)

def fn_part2 {F : FTy → Type} [FloatOps F] (main_arg4 : FVec F S768 .f32) (main_arg5 : FVec F S768 .f32) (main_arg6 : FVec F S768x8 .f32) (main_arg7 : FVec F S8 .f32) (main_v34 : FVec F S2048x768 .f32) (main_v39 : FVec F S2048x1 .f32) (main_v40 : FVec F S2048x768 .f32) : IVec S2048x768 1 × IVec S2048x128 1 :=
  let main_v41 : FVec F S2048x768 .f32 := subf main_v34 main_v40
  let main_cst_5 : FVec F S_ .f32 := constant S_ .f32 0x3727C5AC#32
  let main_v42 : FVec F S2048x1 .f32 := broadcastInDim S2048x1 ![] bcast_S_S2048x1 main_cst_5
  let main_v43 : FVec F S2048x1 .f32 := addf main_v39 main_v42
  let main_v44 : FVec F S2048x1 .f32 := Host.sqrt main_v43
  let main_v45 : FVec F S2048x768 .f32 := broadcastInDim S2048x768 ![0, 1] bcast_S2048x1_S2048x768_0_1 main_v44
  let main_v46 : FVec F S2048x768 .f32 := Host.divf main_v41 main_v45
  let main_v47 : FVec F S1x768 .f32 := broadcastInDim S1x768 ![1] bcast_S768_S1x768_1 main_arg4
  let main_v48 : FVec F S2048x768 .f32 := broadcastInDim S2048x768 ![0, 1] bcast_S1x768_S2048x768_0_1 main_v47
  let main_v49 : FVec F S2048x768 .f32 := mulf main_v46 main_v48
  let main_v50 : FVec F S1x768 .f32 := broadcastInDim S1x768 ![1] bcast_S768_S1x768_1 main_arg5
  let main_v51 : FVec F S2048x768 .f32 := broadcastInDim S2048x768 ![0, 1] bcast_S1x768_S2048x768_0_1 main_v50
  let main_v52 : FVec F S2048x768 .f32 := addf main_v49 main_v51
  let main_v53 : FVec F S2048x8 .f32 := (fun l r => Host.dotGeneral dot_S2048x768_S768x8_S2048x8_1_0_0_1_n_n none l r) main_v52 main_arg6
  let main_v54 : FVec F S1x8 .f32 := broadcastInDim S1x8 ![1] bcast_S8_S1x8_1 main_arg7
  let main_v55 : FVec F S2048x8 .f32 := broadcastInDim S2048x8 ![0, 1] bcast_S1x8_S2048x8_0_1 main_v54
  let main_v56 : FVec F S2048x8 .f32 := addf main_v53 main_v55
  let main_cst_6 : FVec F S_ .f32 := constant S_ .f32 0xF149F2CA#32
  let main_v57 : FVec F S2048x8 .f32 := broadcastInDim S2048x8 ![] bcast_S_S2048x8 main_cst_6
  let main_v58 : IVec S2048x8 1 := cmpf .ogt main_v56 main_v57
  let main_cst_7 : FVec F S_ .f32 := constant S_ .f32 0x7149F2CA#32
  let main_v59 : FVec F S2048x8 .f32 := broadcastInDim S2048x8 ![] bcast_S_S2048x8 main_cst_7
  let main_v60 : IVec S2048x8 1 := cmpf .olt main_v56 main_v59
  let main_v61 : IVec S2048x8 1 := andi main_v58 main_v60
  fn_part3 (F := F) main_v61

def fn_part1 {F : FTy → Type} [FloatOps F] (main_arg1 : FVec F S768x768 .f32) (main_arg2 : FVec F S768 .f32) (main_arg3 : FVec F S2048x768 .f32) (main_arg4 : FVec F S768 .f32) (main_arg5 : FVec F S768 .f32) (main_arg6 : FVec F S768x8 .f32) (main_arg7 : FVec F S8 .f32) (main_v8 : FVec F S12x2048x64 .f32) (main_v20 : FVec F S12x2048x2048 .f32) : IVec S2048x768 1 × IVec S2048x128 1 :=
  let main_v21 : FVec F S12x2048x2048 .f32 := Host.exp main_v20
  let main_cst_2 : FVec F S_ .f32 := constant S_ .f32 0x00000000#32
  let main_v22 : FVec F S12x2048 .f32 := (fun x v => Host.reduceAdd x v reducesTo_S12x2048x2048_S12x2048_d2 h_S_) main_v21 main_cst_2
  let main_v23 : FVec F S12x2048x1 .f32 := broadcastInDim S12x2048x1 ![0, 1] bcast_S12x2048_S12x2048x1_0_1 main_v22
  let main_v24 : FVec F S12x2048x2048 .f32 := broadcastInDim S12x2048x2048 ![0, 1, 2] bcast_S12x2048x1_S12x2048x2048_0_1_2 main_v23
  let main_v25 : FVec F S12x2048x2048 .f32 := Host.divf main_v21 main_v24
  let main_v26 : FVec F S12x2048x64 .f32 := (fun l r => Host.dotGeneral dot_S12x2048x2048_S12x2048x64_S12x2048x64_2_1_1_2_0_0 none l r) main_v25 main_v8
  let main_v27 : FVec F S2048x12x64 .f32 := (transpose S2048x12x64 [1, 0, 2] · transposes_S12x2048x64_S2048x12x64_1_0_2) main_v26
  let main_v28 : FVec F S2048x768 .f32 := shapeCast S2048x768 main_v27 shapeCasts_S2048x12x64_S2048x768
  let main_v29 : FVec F S768x768 .f32 := (transpose S768x768 [1, 0] · transposes_S768x768_S768x768_1_0) main_arg1
  let main_v30 : FVec F S2048x768 .f32 := (fun l r => Host.dotGeneral dot_S2048x768_S768x768_S2048x768_1_0_0_1_n_n none l r) main_v28 main_v29
  let main_v31 : FVec F S1x768 .f32 := broadcastInDim S1x768 ![1] bcast_S768_S1x768_1 main_arg2
  let main_v32 : FVec F S2048x768 .f32 := broadcastInDim S2048x768 ![0, 1] bcast_S1x768_S2048x768_0_1 main_v31
  let main_v33 : FVec F S2048x768 .f32 := addf main_v30 main_v32
  let main_v34 : FVec F S2048x768 .f32 := addf main_arg3 main_v33
  let main_cst_3 : FVec F S_ .f32 := constant S_ .f32 0x00000000#32
  let main_v35 : FVec F S2048 .f32 := (fun x v => Host.reduceAdd x v reducesTo_S2048x768_S2048_d1 h_S_) main_v34 main_cst_3
  let main_v36 : FVec F S2048x1 .f32 := broadcastInDim S2048x1 ![0] bcast_S2048_S2048x1_0 main_v35
  let main_cst_4 : FVec F S_ .f32 := constant S_ .f32 0x44400000#32
  let main_v37 : FVec F S2048x1 .f32 := broadcastInDim S2048x1 ![] bcast_S_S2048x1 main_cst_4
  let main_v38 : FVec F S2048x1 .f32 := Host.divf main_v36 main_v37
  let main_c : IVec S_ 32 := constantI S_ 32 0#32
  let main_v39 : FVec F S2048x1 .f32 := fn_var (F := F) main_v34 main_c
  let main_v40 : FVec F S2048x768 .f32 := broadcastInDim S2048x768 ![0, 1] bcast_S2048x1_S2048x768_0_1 main_v38
  fn_part2 (F := F) main_arg4 main_arg5 main_arg6 main_arg7 main_v34 main_v39 main_v40

def fn {F : FTy → Type} [FloatOps F] (main_arg0 : FVec F S2048x2304 .f32) (main_arg1 : FVec F S768x768 .f32) (main_arg2 : FVec F S768 .f32) (main_arg3 : FVec F S2048x768 .f32) (main_arg4 : FVec F S768 .f32) (main_arg5 : FVec F S768 .f32) (main_arg6 : FVec F S768x8 .f32) (main_arg7 : FVec F S8 .f32) : IVec S2048x768 1 × IVec S2048x128 1 :=
  let main_v0 : FVec F S2048x768 .f32 := (extractStridedSlice S2048x768 ![0, 0] · slices_S2048x2304_S2048x768_0_0) main_arg0
  let main_v1 : FVec F S2048x768 .f32 := (extractStridedSlice S2048x768 ![0, 768] · slices_S2048x2304_S2048x768_0_768) main_arg0
  let main_v2 : FVec F S2048x768 .f32 := (extractStridedSlice S2048x768 ![0, 1536] · slices_S2048x2304_S2048x768_0_1536) main_arg0
  let main_v3 : FVec F S2048x12x64 .f32 := shapeCast S2048x12x64 main_v0 shapeCasts_S2048x768_S2048x12x64
  let main_v4 : FVec F S12x2048x64 .f32 := (transpose S12x2048x64 [1, 0, 2] · transposes_S2048x12x64_S12x2048x64_1_0_2) main_v3
  let main_v5 : FVec F S2048x12x64 .f32 := shapeCast S2048x12x64 main_v1 shapeCasts_S2048x768_S2048x12x64
  let main_v6 : FVec F S12x2048x64 .f32 := (transpose S12x2048x64 [1, 0, 2] · transposes_S2048x12x64_S12x2048x64_1_0_2) main_v5
  let main_v7 : FVec F S2048x12x64 .f32 := shapeCast S2048x12x64 main_v2 shapeCasts_S2048x768_S2048x12x64
  let main_v8 : FVec F S12x2048x64 .f32 := (transpose S12x2048x64 [1, 0, 2] · transposes_S2048x12x64_S12x2048x64_1_0_2) main_v7
  let main_v9 : FVec F S12x64x2048 .f32 := (transpose S12x64x2048 [0, 2, 1] · transposes_S12x2048x64_S12x64x2048_0_2_1) main_v6
  let main_v10 : FVec F S12x2048x2048 .f32 := (fun l r => Host.dotGeneral dot_S12x2048x64_S12x64x2048_S12x2048x2048_2_1_1_2_0_0 none l r) main_v4 main_v9
  let main_cst : FVec F S_ .f32 := constant S_ .f32 0x42800000#32
  let main_v11 : FVec F S_ .f32 := Host.sqrt main_cst
  let main_v12 : FVec F S_ .f32 := id main_v11
  let main_v13 : FVec F S12x2048x2048 .f32 := broadcastInDim S12x2048x2048 ![] bcast_S_S12x2048x2048 main_v12
  let main_v14 : FVec F S12x2048x2048 .f32 := Host.divf main_v10 main_v13
  let main_cst_0 : FVec F S_ .f32 := constant S_ .f32 0xFF800000#32
  let main_v15 : FVec F S12x2048 .f32 := (fun x v => Host.reduce FloatOps.maximumf x v reducesTo_S12x2048x2048_S12x2048_d2 h_S_) main_v14 main_cst_0
  let main_cst_1 : FVec F S_ .f32 := constant S_ .f32 0xFF800000#32
  let main_v16 : FVec F S12x2048 .f32 := broadcastInDim S12x2048 ![] bcast_S_S12x2048 main_cst_1
  let main_v17 : FVec F S12x2048 .f32 := maximumf main_v16 main_v15
  let main_v18 : FVec F S12x2048x1 .f32 := broadcastInDim S12x2048x1 ![0, 1] bcast_S12x2048_S12x2048x1_0_1 main_v17
  let main_v19 : FVec F S12x2048x2048 .f32 := broadcastInDim S12x2048x2048 ![0, 1, 2] bcast_S12x2048x1_S12x2048x2048_0_1_2 main_v18
  let main_v20 : FVec F S12x2048x2048 .f32 := subf main_v14 main_v19
  fn_part1 (F := F) main_arg1 main_arg2 main_arg3 main_arg4 main_arg5 main_arg6 main_arg7 main_v8 main_v20
-- ==== Qkv.lean ====
abbrev S2048x768 : Shape := ⟨2, ![2048, 768]⟩
abbrev S2304x768 : Shape := ⟨2, ![2304, 768]⟩
abbrev S2304 : Shape := ⟨1, ![2304]⟩
abbrev S1x2304 : Shape := ⟨2, ![1, 2304]⟩
abbrev S2048x2304 : Shape := ⟨2, ![2048, 2304]⟩
abbrev S512x768 : Shape := ⟨2, ![512, 768]⟩
abbrev S768x768 : Shape := ⟨2, ![768, 768]⟩
abbrev S1x768 : Shape := ⟨2, ![1, 768]⟩

abbrev nBuf : Space → Nat
  | .hbm => 5
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S2304x768, .f32⟩
  | .hbm, ⟨2, _⟩ => ⟨S2304, .f32⟩
  | .hbm, ⟨3, _⟩ => ⟨S1x2304, .f32⟩
  | .hbm, ⟨4, _⟩ => ⟨S2048x2304, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S768x768, .f32⟩
  | .local _ .vmem, ⟨4, _⟩ => ⟨S1x768, .f32⟩
  | .local _ .vmem, ⟨5, _⟩ => ⟨S1x768, .f32⟩
  | .local _ .vmem, ⟨6, _⟩ => ⟨S512x768, .f32⟩
  | .local _ .vmem, ⟨7, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S2048x768 : Shape := ⟨2, ![2048, 768]⟩
abbrev S2304x768 : Shape := ⟨2, ![2304, 768]⟩
abbrev S2304 : Shape := ⟨1, ![2304]⟩
abbrev S768x2304 : Shape := ⟨2, ![768, 2304]⟩
abbrev S2048x2304 : Shape := ⟨2, ![2048, 2304]⟩
abbrev S1x2304 : Shape := ⟨2, ![1, 2304]⟩

abbrev nBuf : Space → Nat
  | .hbm => 8
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2304x768, .f32⟩
  | .hbm, ⟨2, _⟩ => ⟨S2304, .f32⟩
  | .hbm, ⟨3, _⟩ => ⟨S768x2304, .f32⟩
  | .hbm, ⟨4, _⟩ => ⟨S2048x2304, .f32⟩
  | .hbm, ⟨5, _⟩ => ⟨S1x2304, .f32⟩
  | .hbm, ⟨6, _⟩ => ⟨S2048x2304, .f32⟩
  | .hbm, ⟨7, _⟩ => ⟨S2048x2304, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mega.lean ====
abbrev S2048x2304 : Shape := ⟨2, ![2048, 2304]⟩
abbrev S768x768 : Shape := ⟨2, ![768, 768]⟩
abbrev S768 : Shape := ⟨1, ![768]⟩
abbrev S2048x768 : Shape := ⟨2, ![2048, 768]⟩
abbrev S768x8 : Shape := ⟨2, ![768, 8]⟩
abbrev S8 : Shape := ⟨1, ![8]⟩
abbrev S_ : Shape := ⟨0, ![]⟩
abbrev S768x120 : Shape := ⟨2, ![768, 120]⟩
abbrev S768x128 : Shape := ⟨2, ![768, 128]⟩
abbrev S120 : Shape := ⟨1, ![120]⟩
abbrev S128 : Shape := ⟨1, ![128]⟩
abbrev S1x768 : Shape := ⟨2, ![1, 768]⟩
abbrev S1x128 : Shape := ⟨2, ![1, 128]⟩
abbrev S2048x128 : Shape := ⟨2, ![2048, 128]⟩
abbrev S512x768 : Shape := ⟨2, ![512, 768]⟩
abbrev S512x128 : Shape := ⟨2, ![512, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 20
  | .vmem => 15
  | .smem => 0
  | _ => 0

abbrev bufTy : (tb : Table) → Fin (tcTables nBuf tb) → BufTy
  | .hbm, ⟨0, _⟩ => ⟨S2048x2304, .f32⟩
  | .hbm, ⟨1, _⟩ => ⟨S768x768, .f32⟩
  | .hbm, ⟨2, _⟩ => ⟨S768, .f32⟩
  | .hbm, ⟨3, _⟩ => ⟨S2048x768, .f32⟩
  | .hbm, ⟨4, _⟩ => ⟨S768, .f32⟩
  | .hbm, ⟨5, _⟩ => ⟨S768, .f32⟩
  | .hbm, ⟨6, _⟩ => ⟨S768x8, .f32⟩
  | .hbm, ⟨7, _⟩ => ⟨S8, .f32⟩
  | .hbm, ⟨8, _⟩ => ⟨S_, .f32⟩
  | .hbm, ⟨9, _⟩ => ⟨S768x120, .f32⟩
  | .hbm, ⟨10, _⟩ => ⟨S768x128, .f32⟩
  | .hbm, ⟨11, _⟩ => ⟨S_, .f32⟩
  | .hbm, ⟨12, _⟩ => ⟨S120, .f32⟩
  | .hbm, ⟨13, _⟩ => ⟨S128, .f32⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S1x128, .f32⟩
  | .hbm, ⟨18, _⟩ => ⟨S2048x768, .f32⟩
  | .hbm, ⟨19, _⟩ => ⟨S2048x128, .f32⟩
  | .local _ .vmem, ⟨0, _⟩ => ⟨S2048x2304, .f32⟩
  | .local _ .vmem, ⟨1, _⟩ => ⟨S768x768, .f32⟩
  | .local _ .vmem, ⟨2, _⟩ => ⟨S1x768, .f32⟩
  | .local _ .vmem, ⟨3, _⟩ => ⟨S512x768, .f32⟩
  | .local _ .vmem, ⟨4, _⟩ => ⟨S512x768, .f32⟩
  | .local _ .vmem, ⟨5, _⟩ => ⟨S1x768, .f32⟩
  | .local _ .vmem, ⟨6, _⟩ => ⟨S1x768, .f32⟩
  | .local _ .vmem, ⟨7, _⟩ => ⟨S768x128, .f32⟩
  | .local _ .vmem, ⟨8, _⟩ => ⟨S1x128, .f32⟩
  | .local _ .vmem, ⟨9, _⟩ => ⟨S512x768, .f32⟩
  | .local _ .vmem, ⟨10, _⟩ => ⟨S512x768, .f32⟩
  | .local _ .vmem, ⟨11, _⟩ => ⟨S512x128, .f32⟩
  | .local _ .vmem, ⟨12, _⟩ => ⟨S512x128, .f32⟩
  | .local _ .vmem, ⟨13, _⟩ => ⟨S512x768, .f32⟩
  | .local _ .vmem, ⟨14, _⟩ => ⟨S1x128, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : Index := Scalar.indexCast v0
  let c0 : Index := 0#32
  ![v1.toNat, 0]
def k0_off2 (i : grid0.Coords) : Fin 2 → Nat :=
  let arg0 : BitVec 32 := BitVec.ofNat 32 (i 0).val
  let c512_i32 : BitVec 32 := 512#32
  let v0 : BitVec 32 := Scalar.muli arg0 c512_i32
  let v25 : Index := Scalar.indexCast v0
  let c64 : Index := 64#32
  ![v25.toNat, 64]
def k0_off3 (i : grid0.Coords) : Fin 2 → Nat :=
  let arg0 : BitVec 32 := BitVec.ofNat 32 (i 0).val
  let c512_i32 : BitVec 32 := 512#32
  let v0 : BitVec 32 := Scalar.muli arg0 c512_i32
  let v49 : Index := Scalar.indexCast v0
  let c128 : Index := 128#32
  ![v49.toNat, 128]
def k0_off4 (i : grid0.Coords) : Fin 2 → Nat :=
  let arg0 : BitVec 32 := BitVec.ofNat 32 (i 0).val
  let c512_i32 : BitVec 32 := 512#32
  let v0 : BitVec 32 := Scalar.muli arg0 c512_i32
  let v73 : Index := Scalar.indexCast v0
  let c192 : Index := 192#32
  ![v73.toNat, 192]
def k0_off5 (i : grid0.Coords) : Fin 2 → Nat :=
  let arg0 : BitVec 32 := BitVec.ofNat 32 (i 0).val
  let c512_i32 : BitVec 32 := 512#32
  let v0 : BitVec 32 := Scalar.muli arg0 c512_i32
  let v97 : Index := Scalar.indexCast v0
  let c256 : Index := 256#32
  ![v97.toNat, 256]
def k0_off6 (i : grid0.Coords) : Fin 2 → Nat :=
  let arg0 : BitVec 32 := BitVec.ofNat 32 (i 0).val
  let c512_i32 : BitVec 32 := 512#32
  let v0 : BitVec 32 := Scalar.muli arg0 c512_i32
  let v121 : Index := Scalar.indexCast v0
  let c320 : Index := 320#32
  ![v121.toNat, 320]
def k0_off7 (i : grid0.Coords) : Fin 2 → Nat :=
  let arg0 : BitVec 32 := BitVec.ofNat 32 (i 0).val
  let c512_i32 : BitVec 32 := 512#32
  let v0 : BitVec 32 := Scalar.muli arg0 c512_i32
  let v145 : Index := Scalar.indexCast v0
  let c384 : Index := 384#32
  ![v145.toNat, 384]
def k0_off8 (i : grid0.Coords) : Fin 2 → Nat :=
  let arg0 : BitVec 32 := BitVec.ofNat 32 (i 0).val
  let c512_i32 : BitVec 32 := 512#32
  let v0 : BitVec 32 := Scalar.muli arg0 c512_i32
  let v169 : Index := Scalar.indexCast v0
  let c448 : Index := 448#32
  ![v169.toNat, 448]
def k0_off9 (i : grid0.Coords) : Fin 2 → Nat :=
  let arg0 : BitVec 32 := BitVec.ofNat 32 (i 0).val
  let c512_i32 : BitVec 32 := 512#32
  let v0 : BitVec 32 := Scalar.muli arg0 c512_i32
  let v193 : Index := Scalar.indexCast v0
  let c512 : Index := 512#32
  ![v193.toNat, 512]
def k0_off10 (i : grid0.Coords) : Fin 2 → Nat :=
  let arg0 : BitVec 32 := BitVec.ofNat 32 (i 0).val
  let c512_i32 : BitVec 32 := 512#32
  let v0 : BitVec 32 := Scalar.muli arg0 c512_i32
  let v217 : Index := Scalar.indexCast v0
  let c576 : Index := 576#32
  ![v217.toNat, 576]
def k0_off11 (i : grid0.Coords) : Fin 2 → Nat :=
  let arg0 : BitVec 32 := BitVec.ofNat 32 (i 0).val
  let c512_i32 : BitVec 32 := 512#32
  let v0 : BitVec 32 := Scalar.muli arg0 c512_i32
  let v241 : Index := Scalar.indexCast v0
  let c640 : Index := 640#32
  ![v241.toNat, 640]
def k0_off12 (i : grid0.Coords) : Fin 2 → Nat :=
  let arg0 : BitVec 32 := BitVec.ofNat 32 (i 0).val
  let c512_i32 : BitVec 32 := 512#32
  let v0 : BitVec 32 := Scalar.muli arg0 c512_i32
  let v265 : Index := Scalar.indexCast v0
  let c704 : Index := 704#32
  ![v265.toNat, 704]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MegaRefIdeal.lean ====
abbrev S2048x2304 : Shape := ⟨2, ![2048, 2304]⟩
abbrev S768x768 : Shape := ⟨2, ![768, 768]⟩
abbrev S768 : Shape := ⟨1, ![768]⟩
abbrev S2048x768 : Shape := ⟨2, ![2048, 768]⟩
abbrev S768x8 : Shape := ⟨2, ![768, 8]⟩
abbrev S8 : Shape := ⟨1, ![8]⟩
abbrev S2048x12x64 : Shape := ⟨3, ![2048, 12, 64]⟩
abbrev S12x2048x64 : Shape := ⟨3, ![12, 2048, 64]⟩
abbrev S12x64x2048 : Shape := ⟨3, ![12, 64, 2048]⟩
abbrev S12x2048x2048 : Shape := ⟨3, ![12, 2048, 2048]⟩
abbrev S_ : Shape := ⟨0, ![]⟩
abbrev S12x2048 : Shape := ⟨2, ![12, 2048]⟩
abbrev S12x2048x1 : Shape := ⟨3, ![12, 2048, 1]⟩
abbrev S1x768 : Shape := ⟨2, ![1, 768]⟩
abbrev S2048 : Shape := ⟨1, ![2048]⟩
abbrev S2048x1 : Shape := ⟨2, ![2048, 1]⟩
abbrev S2048x8 : Shape := ⟨2, ![2048, 8]⟩
abbrev S1x8 : Shape := ⟨2, ![1, 8]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S2048x1x8 : Shape := ⟨3, ![2048, 1, 8]⟩
abbrev S2048x122 : Shape := ⟨2, ![2048, 122]⟩
abbrev S2048x128 : Shape := ⟨2, ![2048, 128]⟩

abbrev nBuf : Space → Nat
  | .hbm => 134
  | .vmem => 0
  | .smem => 0
  | _ => 0

abbrev hbmTy0_0 (i : Nat) : BufTy := match i % 128 with
  | 0 => ⟨S2048x2304, .f32⟩
  | 1 => ⟨S768x768, .f32⟩
  | 2 => ⟨S768, .f32⟩
  | 3 => ⟨S2048x768, .f32⟩
  | 4 => ⟨S768, .f32⟩
  | 5 => ⟨S768, .f32⟩
  | 6 => ⟨S768x8, .f32⟩
  | 7 => ⟨S8, .f32⟩
  | 8 => ⟨S2048x768, .f32⟩
  | 9 => ⟨S2048x768, .f32⟩
  | 10 => ⟨S2048x768, .f32⟩
  | 11 => ⟨S2048x12x64, .f32⟩
  | 12 => ⟨S12x2048x64, .f32⟩
  | 13 => ⟨S2048x12x64, .f32⟩
  | 14 => ⟨S12x2048x64, .f32⟩
  | 15 => ⟨S2048x12x64, .f32⟩
  | 16 => ⟨S12x2048x64, .f32⟩
  | 17 => ⟨S12x64x2048, .f32⟩
  | 18 => ⟨S12x2048x2048, .f32⟩
  | 19 => ⟨S_, .f32⟩
  | 20 => ⟨S_, .f32⟩
  | 21 => ⟨S_, .f32⟩
  | 22 => ⟨S12x2048x2048, .f32⟩
  | 23 => ⟨S12x2048x2048, .f32⟩
  | 24 => ⟨S_, .f32⟩
  | 25 => ⟨S12x2048, .f32⟩
  | 26 => ⟨S_, .f32⟩
  | 27 => ⟨S12x2048, .f32⟩
  | 28 => ⟨S12x2048, .f32⟩
  | 29 => ⟨S12x2048x1, .f32⟩
  | 30 => ⟨S12x2048x2048, .f32⟩
  | 31 => ⟨S12x2048x2048, .f32⟩
  | 32 => ⟨S12x2048x2048, .f32⟩
  | 33 => ⟨S_, .f32⟩
  | 34 => ⟨S12x2048, .f32⟩
  | 35 => ⟨S12x2048x1, .f32⟩
  | 36 => ⟨S12x2048x2048, .f32⟩
  | 37 => ⟨S12x2048x2048, .f32⟩
  | 38 => ⟨S12x2048x64, .f32⟩
  | 39 => ⟨S2048x12x64, .f32⟩
  | 40 => ⟨S2048x768, .f32⟩
  | 41 => ⟨S768x768, .f32⟩
  | 42 => ⟨S2048x768, .f32⟩
  | 43 => ⟨S1x768, .f32⟩
  | 44 => ⟨S2048x768, .f32⟩
  | 45 => ⟨S2048x768, .f32⟩
  | 46 => ⟨S2048x768, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .i32⟩
  | 54 => ⟨S_, .f32⟩
  | 55 => ⟨S2048, .f32⟩
  | 56 => ⟨S2048x1, .f32⟩
  | 57 => ⟨S_, .f32⟩
  | 58 => ⟨S2048x1, .f32⟩
  | 59 => ⟨S2048x1, .f32⟩
  | 60 => ⟨S2048x768, .f32⟩
  | 61 => ⟨S2048x768, .f32⟩
  | 62 => ⟨S2048x768, .f32⟩
  | 63 => ⟨S_, .f32⟩
  | 64 => ⟨S_, .f32⟩
  | 65 => ⟨S_, .f32⟩
  | 66 => ⟨S_, .f32⟩
  | 67 => ⟨S2048, .f32⟩
  | 68 => ⟨S2048x1, .f32⟩
  | 69 => ⟨S2048x1, .f32⟩
  | 70 => ⟨S2048x1, .f32⟩
  | 71 => ⟨S_, .f32⟩
  | 72 => ⟨S_, .i1⟩
  | 73 => ⟨S_, .f32⟩
  | 74 => ⟨S_, .f32⟩
  | 75 => ⟨S2048x1, .f32⟩
  | 76 => ⟨S2048x1, .f32⟩
  | 77 => ⟨S2048x768, .f32⟩
  | 78 => ⟨S2048x768, .f32⟩
  | 79 => ⟨S_, .f32⟩
  | 80 => ⟨S2048x1, .f32⟩
  | 81 => ⟨S2048x1, .f32⟩
  | 82 => ⟨S2048x1, .f32⟩
  | 83 => ⟨S2048x768, .f32⟩
  | 84 => ⟨S2048x768, .f32⟩
  | 85 => ⟨S1x768, .f32⟩
  | 86 => ⟨S2048x768, .f32⟩
  | 87 => ⟨S2048x768, .f32⟩
  | 88 => ⟨S1x768, .f32⟩
  | 89 => ⟨S2048x768, .f32⟩
  | 90 => ⟨S2048x768, .f32⟩
  | 91 => ⟨S2048x8, .f32⟩
  | 92 => ⟨S1x8, .f32⟩
  | 93 => ⟨S2048x8, .f32⟩
  | 94 => ⟨S2048x8, .f32⟩
  | 95 => ⟨S2048x2, .f32⟩
  | 96 => ⟨S2048x2, .i32⟩
  | 97 => ⟨S_, .f32⟩
  | 98 => ⟨S2048, .f32⟩
  | 99 => ⟨S_, .f32⟩
  | 100 => ⟨S2048, .f32⟩
  | 101 => ⟨S2048, .f32⟩
  | 102 => ⟨S2048x1, .f32⟩
  | 103 => ⟨S2048x2, .f32⟩
  | 104 => ⟨S2048x2, .f32⟩
  | 105 => ⟨S2048x2, .f32⟩
  | 106 => ⟨S_, .f32⟩
  | 107 => ⟨S2048, .f32⟩
  | 108 => ⟨S2048x1, .f32⟩
  | 109 => ⟨S2048x2, .f32⟩
  | 110 => ⟨S2048x2, .f32⟩
  | 111 => ⟨S2048x2x1, .i32⟩
  | 112 => ⟨S8, .i32⟩
  | 113 => ⟨S1x1x8, .i32⟩
  | 114 => ⟨S2048x2x8, .i32⟩
  | 115 => ⟨S2048x2x8, .i32⟩
  | 116 => ⟨S2048x2x8, .i1⟩
  | 117 => ⟨S2048x2x8, .i32⟩
  | 118 => ⟨S_, .i32⟩
  | 119 => ⟨S2048x8, .i32⟩
  | 120 => ⟨S_, .i32⟩
  | 121 => ⟨S_, .i32⟩
  | 122 => ⟨S2048x8, .i32⟩
  | 123 => ⟨S2048x8, .i32⟩
  | 124 => ⟨S2048x1x8, .i32⟩
  | 125 => ⟨S2048x2x8, .i32⟩
  | 126 => ⟨S2048x2x8, .i32⟩
  | 127 => ⟨S_, .i32⟩
  | _ => ⟨S2048x2304, .f32⟩

abbrev hbmTy0_1 (i : Nat) : BufTy := match i % 128 with
  | 0 => ⟨S2048x2, .i32⟩
  | 1 => ⟨S2048x2, .f32⟩
  | 2 => ⟨S2048x2, .f32⟩
  | 3 => ⟨S_, .f32⟩
  | 4 => ⟨S2048x122, .f32⟩
  | 5 => ⟨S2048x128, .f32⟩
  | _ => ⟨S2048x2304, .f32⟩

abbrev hbmTy (i : Nat) : BufTy := match i / 128 with
  | 0 => hbmTy0_0 i
  | 1 => hbmTy0_1 i
  | _ => ⟨S2048x2304, .f32⟩

abbrev bufTy : (tb : Table) → Fin (tcTables nBuf tb) → BufTy
  | .hbm, ⟨i, _⟩ => hbmTy i
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_cst_3 : Ref sig .tc := ⟨.hbm, 71, rfl⟩
abbrev main_call0_v13 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_5 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_values : Ref sig .tc := ⟨.hbm, 95, rfl⟩
abbrev main_indices : Ref sig .tc := ⟨.hbm, 96, rfl⟩
abbrev main_cst_6 : Ref sig .tc := ⟨.hbm, 97, rfl⟩
abbrev main_v57 : Ref sig .tc := ⟨.hbm, 98, rfl⟩
abbrev main_cst_7 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_8 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_9 : Ref sig .tc := ⟨.hbm, 118, rfl⟩
abbrev main_v75 : Ref sig .tc := ⟨.hbm, 119, rfl⟩
abbrev main_call1_call0_c : Ref sig .tc := ⟨.hbm, 120, rfl⟩
abbrev main_call1_call0_v0 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_10 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_11 : Ref sig .tc := ⟨.hbm, 131, rfl⟩
abbrev main_v84 : Ref sig .tc := ⟨.hbm, 132, rfl⟩
abbrev main_v85 : Ref sig .tc := ⟨.hbm, 133, rfl⟩

abbrev nD : Nat := 1
abbrev τ : Topo := Topo.v7x

variable {F : FTy → Type} [FloatOps F]
-- ==== First.lean ====
abbrev S8 : Shape := ⟨1, ![8]⟩
abbrev S8192x768 : Shape := ⟨2, ![8192, 768]⟩
abbrev S8x768 : Shape := ⟨2, ![8, 768]⟩
abbrev S2x8x768x3072 : Shape := ⟨4, ![2, 8, 768, 3072]⟩
abbrev S8x3072 : Shape := ⟨2, ![8, 3072]⟩
abbrev S2x8x3072x768 : Shape := ⟨4, ![2, 8, 3072, 768]⟩
abbrev S8x1x768 : Shape := ⟨3, ![8, 1, 768]⟩
abbrev S8x1x3072 : Shape := ⟨3, ![8, 1, 3072]⟩
abbrev S1024x768 : Shape := ⟨2, ![1024, 768]⟩
abbrev S1x1x768 : Shape := ⟨3, ![1, 1, 768]⟩
abbrev S1x1x768x1536 : Shape := ⟨4, ![1, 1, 768, 1536]⟩
abbrev S1x1x1536 : Shape := ⟨3, ![1, 1, 1536]⟩
abbrev S1x1x1536x768 : Shape := ⟨4, ![1, 1, 1536, 768]⟩
abbrev S1 : Shape := ⟨1, ![1]⟩
abbrev S1x768 : Shape := ⟨2, ![1, 768]⟩
abbrev S1024 : Shape := ⟨1, ![1024]⟩
abbrev S1024x1 : Shape := ⟨2, ![1024, 1]⟩
abbrev S128x768 : Shape := ⟨2, ![128, 768]⟩
abbrev S768x1536 : Shape := ⟨2, ![768, 1536]⟩
abbrev S128x1536 : Shape := ⟨2, ![128, 1536]⟩
abbrev S1x1536 : Shape := ⟨2, ![1, 1536]⟩
abbrev S1536x768 : Shape := ⟨2, ![1536, 768]⟩

abbrev nBuf : Space → Nat
  | .hbm => 12
  | .vmem => 17
  | .smem => 1
  | _ => 0

abbrev bufTy : (tb : Table) → Fin (tcTables nBuf tb) → BufTy
  | .hbm, ⟨0, _⟩ => ⟨S8192x768, .f32⟩
  | .hbm, ⟨1, _⟩ => ⟨S8x768, .f32⟩
  | .hbm, ⟨2, _⟩ => ⟨S8x768, .f32⟩
  | .hbm, ⟨3, _⟩ => ⟨S2x8x768x3072, .f32⟩
  | .hbm, ⟨4, _⟩ => ⟨S8x3072, .f32⟩
  | .hbm, ⟨5, _⟩ => ⟨S2x8x3072x768, .f32⟩
  | .hbm, ⟨6, _⟩ => ⟨S8x768, .f32⟩
  | .hbm, ⟨7, _⟩ => ⟨S8x1x768, .f32⟩
  | .hbm, ⟨8, _⟩ => ⟨S8x1x768, .f32⟩
  | .hbm, ⟨9, _⟩ => ⟨S8x1x3072, .f32⟩
  | .hbm, ⟨10, _⟩ => ⟨S8x1x768, .f32⟩
  | .hbm, ⟨11, _⟩ => ⟨S8192x768, .f32⟩
  | .local _ .vmem, ⟨0, _⟩ => ⟨S1024x768, .f32⟩
  | .local _ .vmem, ⟨1, _⟩ => ⟨S1024x768, .f32⟩
  | .local _ .vmem, ⟨2, _⟩ => ⟨S1x1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .vmem, ⟨6, _⟩ => ⟨S1x1x768x1536, .f32⟩
  | .local _ .vmem, ⟨7, _⟩ => ⟨S1x1x768x1536, .f32⟩
  | .local _ .vmem, ⟨8, _⟩ => ⟨S1x1x1536, .f32⟩
  | .local _ .vmem, ⟨9, _⟩ => ⟨S1x1x1536, .f32⟩
  | .local _ .vmem, ⟨10, _⟩ => ⟨S1x1x1536x768, .f32⟩
  | .local _ .vmem, ⟨11, _⟩ => ⟨S1x1x1536x768, .f32⟩
  | .local _ .vmem, ⟨12, _⟩ => ⟨S1x1x768, .f32⟩
  | .local _ .vmem, ⟨13, _⟩ => ⟨S1x1x768, .f32⟩
  | .local _ .vmem, ⟨14, _⟩ => ⟨S1024x768, .f32⟩
  | .local _ .vmem, ⟨15, _⟩ => ⟨S1024x768, .f32⟩
  | .local _ .vmem, ⟨16, _⟩ => ⟨S1024x768, .f32⟩
  | .local _ .smem, ⟨0, _⟩ => ⟨S8, .i32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def k0_cond3 (v1 : BitVec 32) : BitVec 1 :=
  let c128_i32 : BitVec 32 := 128#32
  let v8 : BitVec 1 := Scalar.cmpi .sgt v1 c128_i32
  let v9 : BitVec 32 := Scalar.extui v8
  let c0_i32_3 : BitVec 32 := 0#32
  let v10 : BitVec 1 := Scalar.cmpi .ne v9 c0_i32_3
  v10

def k0_cond4 (v1 : BitVec 32) : BitVec 1 :=
  let c256_i32 : BitVec 32 := 256#32
  let v11 : BitVec 1 := Scalar.cmpi .sgt v1 c256_i32
  let v12 : BitVec 32 := Scalar.extui v11
  let c0_i32_4 : BitVec 32 := 0#32
  let v13 : BitVec 1 := Scalar.cmpi .ne v12 c0_i32_4
  v13

def k0_cond5 (v1 : BitVec 32) : BitVec 1 :=
  let c384_i32 : BitVec 32 := 384#32
  let v14 : BitVec 1 := Scalar.cmpi .sgt v1 c384_i32
  let v15 : BitVec 32 := Scalar.extui v14
  let c0_i32_5 : BitVec 32 := 0#32
  let v16 : BitVec 1 := Scalar.cmpi .ne v15 c0_i32_5
  v16

def k0_cond6 (v1 : BitVec 32) : BitVec 1 :=
  let c512_i32 : BitVec 32 := 512#32
  let v17 : BitVec 1 := Scalar.cmpi .sgt v1 c512_i32
  let v18 : BitVec 32 := Scalar.extui v17
  let c0_i32_6 : BitVec 32 := 0#32
  let v19 : BitVec 1 := Scalar.cmpi .ne v18 c0_i32_6
  v19

def k0_cond7 (v1 : BitVec 32) : BitVec 1 :=
  let c640_i32 : BitVec 32 := 640#32
  let v20 : BitVec 1 := Scalar.cmpi .sgt v1 c640_i32
  let v21 : BitVec 32 := Scalar.extui v20
  let c0_i32_7 : BitVec 32 := 0#32
  let v22 : BitVec 1 := Scalar.cmpi .ne v21 c0_i32_7
  v22

def k0_cond8 (v1 : BitVec 32) : BitVec 1 :=
  let c768_i32 : BitVec 32 := 768#32
  let v23 : BitVec 1 := Scalar.cmpi .sgt v1 c768_i32
  let v24 : BitVec 32 := Scalar.extui v23
  let c0_i32_8 : BitVec 32 := 0#32
  let v25 : BitVec 1 := Scalar.cmpi .ne v24 c0_i32_8
  v25

def k0_cond9 (v1 : BitVec 32) : BitVec 1 :=
  let c896_i32 : BitVec 32 := 896#32
  let v26 : BitVec 1 := Scalar.cmpi .sgt v1 c896_i32
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x768x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1536x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FirstRefIdeal.lean ====
abbrev S8 : Shape := ⟨1, ![8]⟩
abbrev S8192x768 : Shape := ⟨2, ![8192, 768]⟩
abbrev S8x768 : Shape := ⟨2, ![8, 768]⟩
abbrev S2x8x768x3072 : Shape := ⟨4, ![2, 8, 768, 3072]⟩
abbrev S8x3072 : Shape := ⟨2, ![8, 3072]⟩
abbrev S2x8x3072x768 : Shape := ⟨4, ![2, 8, 3072, 768]⟩
abbrev S8x1024x768 : Shape := ⟨3, ![8, 1024, 768]⟩
abbrev S8x1x768 : Shape := ⟨3, ![8, 1, 768]⟩
abbrev S_ : Shape := ⟨0, ![]⟩
abbrev S8x1024 : Shape := ⟨2, ![8, 1024]⟩
abbrev S8x1024x1 : Shape := ⟨3, ![8, 1024, 1]⟩
abbrev S1x8x768x3072 : Shape := ⟨4, ![1, 8, 768, 3072]⟩
abbrev S8x768x3072 : Shape := ⟨3, ![8, 768, 3072]⟩
abbrev S8x1024x3072 : Shape := ⟨3, ![8, 1024, 3072]⟩
abbrev S8x1x3072 : Shape := ⟨3, ![8, 1, 3072]⟩
abbrev S1x8x3072x768 : Shape := ⟨4, ![1, 8, 3072, 768]⟩
abbrev S8x3072x768 : Shape := ⟨3, ![8, 3072, 768]⟩

abbrev nBuf : Space → Nat
  | .hbm => 76
  | .vmem => 0
  | .smem => 0
  | _ => 0

abbrev bufTy : (tb : Table) → Fin (tcTables nBuf tb) → BufTy
  | .hbm, ⟨0, _⟩ => ⟨S8, .i32⟩
  | .hbm, ⟨1, _⟩ => ⟨S8192x768, .f32⟩
  | .hbm, ⟨2, _⟩ => ⟨S8x768, .f32⟩
  | .hbm, ⟨3, _⟩ => ⟨S8x768, .f32⟩
  | .hbm, ⟨4, _⟩ => ⟨S2x8x768x3072, .f32⟩
  | .hbm, ⟨5, _⟩ => ⟨S8x3072, .f32⟩
  | .hbm, ⟨6, _⟩ => ⟨S2x8x3072x768, .f32⟩
  | .hbm, ⟨7, _⟩ => ⟨S8x768, .f32⟩
  | .hbm, ⟨8, _⟩ => ⟨S8x1024x768, .f32⟩
  | .hbm, ⟨9, _⟩ => ⟨S8x1x768, .f32⟩
  | .hbm, ⟨10, _⟩ => ⟨S8x1x768, .f32⟩
  | .hbm, ⟨11, _⟩ => ⟨S_, .f32⟩
  | .hbm, ⟨12, _⟩ => ⟨S8x1024, .f32⟩
  | .hbm, ⟨13, _⟩ => ⟨S8x1024x1, .f32⟩
  | .hbm, ⟨14, _⟩ => ⟨S_, .f32⟩
  | .hbm, ⟨15, _⟩ => ⟨S8x1024x1, .f32⟩
  | .hbm, ⟨16, _⟩ => ⟨S8x1024x1, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S8x1024x1, .f32⟩
  | .hbm, ⟨21, _⟩ => ⟨S_, .f32⟩
  | .hbm, ⟨22, _⟩ => ⟨S8x1024x1, .f32⟩
  | .hbm, ⟨23, _⟩ => ⟨S8x1024x1, .f32⟩
  | .hbm, ⟨24, _⟩ => ⟨S8x1024x768, .f32⟩
  | .hbm, ⟨25, _⟩ => ⟨S8x1024x768, .f32⟩
  | .hbm, ⟨26, _⟩ => ⟨S8x1024x768, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x1024, .f32⟩
  | .hbm, ⟨32, _⟩ => ⟨S8x1024x1, .f32⟩
  | .hbm, ⟨33, _⟩ => ⟨S8x1024x1, .f32⟩
  | .hbm, ⟨34, _⟩ => ⟨S8x1024x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S8x1024x1, .f32⟩
  | .hbm, ⟨40, _⟩ => ⟨S8x1024x1, .f32⟩
  | .hbm, ⟨41, _⟩ => ⟨S8x1024x768, .f32⟩
  | .hbm, ⟨42, _⟩ => ⟨S8x1024x768, .f32⟩
  | .hbm, ⟨43, _⟩ => ⟨S_, .f32⟩
  | .hbm, ⟨44, _⟩ => ⟨S8x1024x1, .f32⟩
  | .hbm, ⟨45, _⟩ => ⟨S8x1024x1, .f32⟩
  | .hbm, ⟨46, _⟩ => ⟨S8x1024x1, .f32⟩
  | .hbm, ⟨47, _⟩ => ⟨S8x1024x768, .f32⟩
  | .hbm, ⟨48, _⟩ => ⟨S8x1024x768, .f32⟩
  | .hbm, ⟨49, _⟩ => ⟨S8x1024x768, .f32⟩
  | .hbm, ⟨50, _⟩ => ⟨S8x1024x768, .f32⟩
  | .hbm, ⟨51, _⟩ => ⟨S8x1024x768, .f32⟩
  | .hbm, ⟨52, _⟩ => ⟨S8x1024x768, .f32⟩
  | .hbm, ⟨53, _⟩ => ⟨S1x8x768x3072, .f32⟩
  | .hbm, ⟨54, _⟩ => ⟨S8x768x3072, .f32⟩
  | .hbm, ⟨55, _⟩ => ⟨S8x1024x3072, .f32⟩
  | .hbm, ⟨56, _⟩ => ⟨S8x1x3072, .f32⟩
  | .hbm, ⟨57, _⟩ => ⟨S8x1024x3072, .f32⟩
  | .hbm, ⟨58, _⟩ => ⟨S8x1024x3072, .f32⟩
  | .hbm, ⟨59, _⟩ => ⟨S_, .f32⟩
  | .hbm, ⟨60, _⟩ => ⟨S8x1024x3072, .f32⟩
  | .hbm, ⟨61, _⟩ => ⟨S8x1024x3072, .f32⟩
  | .hbm, ⟨62, _⟩ => ⟨S8x1024x3072, .f32⟩
  | .hbm, ⟨63, _⟩ => ⟨S_, .f32⟩
  | .hbm, ⟨64, _⟩ => ⟨S8x1024x3072, .f32⟩
  | .hbm, ⟨65, _⟩ => ⟨S8x1024x3072, .f32⟩
  | .hbm, ⟨66, _⟩ => ⟨S8x1024x3072, .f32⟩
  | .hbm, ⟨67, _⟩ => ⟨S8x1024x3072, .f32⟩
  | .hbm, ⟨68, _⟩ => ⟨S1x8x3072x768, .f32⟩
  | .hbm, ⟨69, _⟩ => ⟨S8x3072x768, .f32⟩
  | .hbm, ⟨70, _⟩ => ⟨S8x1024x768, .f32⟩
  | .hbm, ⟨71, _⟩ => ⟨S8x1x768, .f32⟩
  | .hbm, ⟨72, _⟩ => ⟨S8x1024x768, .f32⟩
  | .hbm, ⟨73, _⟩ => ⟨S8x1024x768, .f32⟩
  | .hbm, ⟨74, _⟩ => ⟨S8x1024x768, .f32⟩
  | .hbm, ⟨75, _⟩ => ⟨S8192x768, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_3 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩

abbrev nD : Nat := 1
abbrev τ : Topo := Topo.v7x

variable {F : FTy → Type} [FloatOps F]
-- ==== Moe.lean ====
abbrev S8 : Shape := ⟨1, ![8]⟩
abbrev S8192x768 : Shape := ⟨2, ![8192, 768]⟩
abbrev S8x768 : Shape := ⟨2, ![8, 768]⟩
abbrev S2x8x768x3072 : Shape := ⟨4, ![2, 8, 768, 3072]⟩
abbrev S8x3072 : Shape := ⟨2, ![8, 3072]⟩
abbrev S2x8x3072x768 : Shape := ⟨4, ![2, 8, 3072, 768]⟩
abbrev S8x1x768 : Shape := ⟨3, ![8, 1, 768]⟩
abbrev S8x1x3072 : Shape := ⟨3, ![8, 1, 3072]⟩
abbrev S1024x768 : Shape := ⟨2, ![1024, 768]⟩
abbrev S1x1x768 : Shape := ⟨3, ![1, 1, 768]⟩
abbrev S1x1x768x1536 : Shape := ⟨4, ![1, 1, 768, 1536]⟩
abbrev S1x1x1536 : Shape := ⟨3, ![1, 1, 1536]⟩
abbrev S1x1x1536x768 : Shape := ⟨4, ![1, 1, 1536, 768]⟩
abbrev S1 : Shape := ⟨1, ![1]⟩
abbrev S1x768 : Shape := ⟨2, ![1, 768]⟩
abbrev S1024 : Shape := ⟨1, ![1024]⟩
abbrev S1024x1 : Shape := ⟨2, ![1024, 1]⟩
abbrev S128x768 : Shape := ⟨2, ![128, 768]⟩
abbrev S768x1536 : Shape := ⟨2, ![768, 1536]⟩
abbrev S128x1536 : Shape := ⟨2, ![128, 1536]⟩
abbrev S1x1536 : Shape := ⟨2, ![1, 1536]⟩
abbrev S1536x768 : Shape := ⟨2, ![1536, 768]⟩

abbrev nBuf : Space → Nat
  | .hbm => 12
  | .vmem => 17
  | .smem => 1
  | _ => 0

abbrev bufTy : (tb : Table) → Fin (tcTables nBuf tb) → BufTy
  | .hbm, ⟨0, _⟩ => ⟨S8192x768, .f32⟩
  | .hbm, ⟨1, _⟩ => ⟨S8x768, .f32⟩
  | .hbm, ⟨2, _⟩ => ⟨S8x768, .f32⟩
  | .hbm, ⟨3, _⟩ => ⟨S2x8x768x3072, .f32⟩
  | .hbm, ⟨4, _⟩ => ⟨S8x3072, .f32⟩
  | .hbm, ⟨5, _⟩ => ⟨S2x8x3072x768, .f32⟩
  | .hbm, ⟨6, _⟩ => ⟨S8x768, .f32⟩
  | .hbm, ⟨7, _⟩ => ⟨S8x1x768, .f32⟩
  | .hbm, ⟨8, _⟩ => ⟨S8x1x768, .f32⟩
  | .hbm, ⟨9, _⟩ => ⟨S8x1x3072, .f32⟩
  | .hbm, ⟨10, _⟩ => ⟨S8x1x768, .f32⟩
  | .hbm, ⟨11, _⟩ => ⟨S8192x768, .f32⟩
  | .local _ .vmem, ⟨0, _⟩ => ⟨S1024x768, .f32⟩
  | .local _ .vmem, ⟨1, _⟩ => ⟨S1024x768, .f32⟩
  | .local _ .vmem, ⟨2, _⟩ => ⟨S1x1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .vmem, ⟨6, _⟩ => ⟨S1x1x768x1536, .f32⟩
  | .local _ .vmem, ⟨7, _⟩ => ⟨S1x1x768x1536, .f32⟩
  | .local _ .vmem, ⟨8, _⟩ => ⟨S1x1x1536, .f32⟩
  | .local _ .vmem, ⟨9, _⟩ => ⟨S1x1x1536, .f32⟩
  | .local _ .vmem, ⟨10, _⟩ => ⟨S1x1x1536x768, .f32⟩
  | .local _ .vmem, ⟨11, _⟩ => ⟨S1x1x1536x768, .f32⟩
  | .local _ .vmem, ⟨12, _⟩ => ⟨S1x1x768, .f32⟩
  | .local _ .vmem, ⟨13, _⟩ => ⟨S1x1x768, .f32⟩
  | .local _ .vmem, ⟨14, _⟩ => ⟨S1024x768, .f32⟩
  | .local _ .vmem, ⟨15, _⟩ => ⟨S1024x768, .f32⟩
  | .local _ .vmem, ⟨16, _⟩ => ⟨S1024x768, .f32⟩
  | .local _ .smem, ⟨0, _⟩ => ⟨S8, .i32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def k0_cond3 (v1 : BitVec 32) : BitVec 1 :=
  let c128_i32 : BitVec 32 := 128#32
  let v8 : BitVec 1 := Scalar.cmpi .sgt v1 c128_i32
  let v9 : BitVec 32 := Scalar.extui v8
  let c0_i32_3 : BitVec 32 := 0#32
  let v10 : BitVec 1 := Scalar.cmpi .ne v9 c0_i32_3
  v10

def k0_cond4 (v1 : BitVec 32) : BitVec 1 :=
  let c256_i32 : BitVec 32 := 256#32
  let v11 : BitVec 1 := Scalar.cmpi .sgt v1 c256_i32
  let v12 : BitVec 32 := Scalar.extui v11
  let c0_i32_4 : BitVec 32 := 0#32
  let v13 : BitVec 1 := Scalar.cmpi .ne v12 c0_i32_4
  v13

def k0_cond5 (v1 : BitVec 32) : BitVec 1 :=
  let c384_i32 : BitVec 32 := 384#32
  let v14 : BitVec 1 := Scalar.cmpi .sgt v1 c384_i32
  let v15 : BitVec 32 := Scalar.extui v14
  let c0_i32_5 : BitVec 32 := 0#32
  let v16 : BitVec 1 := Scalar.cmpi .ne v15 c0_i32_5
  v16

def k0_cond6 (v1 : BitVec 32) : BitVec 1 :=
  let c512_i32 : BitVec 32 := 512#32
  let v17 : BitVec 1 := Scalar.cmpi .sgt v1 c512_i32
  let v18 : BitVec 32 := Scalar.extui v17
  let c0_i32_6 : BitVec 32 := 0#32
  let v19 : BitVec 1 := Scalar.cmpi .ne v18 c0_i32_6
  v19

def k0_cond7 (v1 : BitVec 32) : BitVec 1 :=
  let c640_i32 : BitVec 32 := 640#32
  let v20 : BitVec 1 := Scalar.cmpi .sgt v1 c640_i32
  let v21 : BitVec 32 := Scalar.extui v20
  let c0_i32_7 : BitVec 32 := 0#32
  let v22 : BitVec 1 := Scalar.cmpi .ne v21 c0_i32_7
  v22

def k0_cond8 (v1 : BitVec 32) : BitVec 1 :=
  let c768_i32 : BitVec 32 := 768#32
  let v23 : BitVec 1 := Scalar.cmpi .sgt v1 c768_i32
  let v24 : BitVec 32 := Scalar.extui v23
  let c0_i32_8 : BitVec 32 := 0#32
  let v25 : BitVec 1 := Scalar.cmpi .ne v24 c0_i32_8
  v25

def k0_cond9 (v1 : BitVec 32) : BitVec 1 :=
  let c896_i32 : BitVec 32 := 896#32
  let v26 : BitVec 1 := Scalar.cmpi .sgt v1 c896_i32
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x768x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1536x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S8 : Shape := ⟨1, ![8]⟩
abbrev S8192x768 : Shape := ⟨2, ![8192, 768]⟩
abbrev S8x768 : Shape := ⟨2, ![8, 768]⟩
abbrev S2x8x768x3072 : Shape := ⟨4, ![2, 8, 768, 3072]⟩
abbrev S8x3072 : Shape := ⟨2, ![8, 3072]⟩
abbrev S2x8x3072x768 : Shape := ⟨4, ![2, 8, 3072, 768]⟩
abbrev S8x1024x768 : Shape := ⟨3, ![8, 1024, 768]⟩
abbrev S8x1x768 : Shape := ⟨3, ![8, 1, 768]⟩
abbrev S_ : Shape := ⟨0, ![]⟩
abbrev S8x1024 : Shape := ⟨2, ![8, 1024]⟩
abbrev S8x1024x1 : Shape := ⟨3, ![8, 1024, 1]⟩
abbrev S1x8x768x3072 : Shape := ⟨4, ![1, 8, 768, 3072]⟩
abbrev S8x768x3072 : Shape := ⟨3, ![8, 768, 3072]⟩
abbrev S8x1024x3072 : Shape := ⟨3, ![8, 1024, 3072]⟩
abbrev S8x1x3072 : Shape := ⟨3, ![8, 1, 3072]⟩
abbrev S1x8x3072x768 : Shape := ⟨4, ![1, 8, 3072, 768]⟩
abbrev S8x3072x768 : Shape := ⟨3, ![8, 3072, 768]⟩

abbrev nBuf : Space → Nat
  | .hbm => 76
  | .vmem => 0
  | .smem => 0
  | _ => 0

abbrev bufTy : (tb : Table) → Fin (tcTables nBuf tb) → BufTy
  | .hbm, ⟨0, _⟩ => ⟨S8, .i32⟩
  | .hbm, ⟨1, _⟩ => ⟨S8192x768, .f32⟩
  | .hbm, ⟨2, _⟩ => ⟨S8x768, .f32⟩
  | .hbm, ⟨3, _⟩ => ⟨S8x768, .f32⟩
  | .hbm, ⟨4, _⟩ => ⟨S2x8x768x3072, .f32⟩
  | .hbm, ⟨5, _⟩ => ⟨S8x3072, .f32⟩
  | .hbm, ⟨6, _⟩ => ⟨S2x8x3072x768, .f32⟩
  | .hbm, ⟨7, _⟩ => ⟨S8x768, .f32⟩
  | .hbm, ⟨8, _⟩ => ⟨S8x1024x768, .f32⟩
  | .hbm, ⟨9, _⟩ => ⟨S8x1x768, .f32⟩
  | .hbm, ⟨10, _⟩ => ⟨S8x1x768, .f32⟩
  | .hbm, ⟨11, _⟩ => ⟨S_, .f32⟩
  | .hbm, ⟨12, _⟩ => ⟨S8x1024, .f32⟩
  | .hbm, ⟨13, _⟩ => ⟨S8x1024x1, .f32⟩
  | .hbm, ⟨14, _⟩ => ⟨S_, .f32⟩
  | .hbm, ⟨15, _⟩ => ⟨S8x1024x1, .f32⟩
  | .hbm, ⟨16, _⟩ => ⟨S8x1024x1, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S8x1024x1, .f32⟩
  | .hbm, ⟨21, _⟩ => ⟨S_, .f32⟩
  | .hbm, ⟨22, _⟩ => ⟨S8x1024x1, .f32⟩
  | .hbm, ⟨23, _⟩ => ⟨S8x1024x1, .f32⟩
  | .hbm, ⟨24, _⟩ => ⟨S8x1024x768, .f32⟩
  | .hbm, ⟨25, _⟩ => ⟨S8x1024x768, .f32⟩
  | .hbm, ⟨26, _⟩ => ⟨S8x1024x768, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x1024, .f32⟩
  | .hbm, ⟨32, _⟩ => ⟨S8x1024x1, .f32⟩
  | .hbm, ⟨33, _⟩ => ⟨S8x1024x1, .f32⟩
  | .hbm, ⟨34, _⟩ => ⟨S8x1024x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S8x1024x1, .f32⟩
  | .hbm, ⟨40, _⟩ => ⟨S8x1024x1, .f32⟩
  | .hbm, ⟨41, _⟩ => ⟨S8x1024x768, .f32⟩
  | .hbm, ⟨42, _⟩ => ⟨S8x1024x768, .f32⟩
  | .hbm, ⟨43, _⟩ => ⟨S_, .f32⟩
  | .hbm, ⟨44, _⟩ => ⟨S8x1024x1, .f32⟩
  | .hbm, ⟨45, _⟩ => ⟨S8x1024x1, .f32⟩
  | .hbm, ⟨46, _⟩ => ⟨S8x1024x1, .f32⟩
  | .hbm, ⟨47, _⟩ => ⟨S8x1024x768, .f32⟩
  | .hbm, ⟨48, _⟩ => ⟨S8x1024x768, .f32⟩
  | .hbm, ⟨49, _⟩ => ⟨S8x1024x768, .f32⟩
  | .hbm, ⟨50, _⟩ => ⟨S8x1024x768, .f32⟩
  | .hbm, ⟨51, _⟩ => ⟨S8x1024x768, .f32⟩
  | .hbm, ⟨52, _⟩ => ⟨S8x1024x768, .f32⟩
  | .hbm, ⟨53, _⟩ => ⟨S1x8x768x3072, .f32⟩
  | .hbm, ⟨54, _⟩ => ⟨S8x768x3072, .f32⟩
  | .hbm, ⟨55, _⟩ => ⟨S8x1024x3072, .f32⟩
  | .hbm, ⟨56, _⟩ => ⟨S8x1x3072, .f32⟩
  | .hbm, ⟨57, _⟩ => ⟨S8x1024x3072, .f32⟩
  | .hbm, ⟨58, _⟩ => ⟨S8x1024x3072, .f32⟩
  | .hbm, ⟨59, _⟩ => ⟨S_, .f32⟩
  | .hbm, ⟨60, _⟩ => ⟨S8x1024x3072, .f32⟩
  | .hbm, ⟨61, _⟩ => ⟨S8x1024x3072, .f32⟩
  | .hbm, ⟨62, _⟩ => ⟨S8x1024x3072, .f32⟩
  | .hbm, ⟨63, _⟩ => ⟨S_, .f32⟩
  | .hbm, ⟨64, _⟩ => ⟨S8x1024x3072, .f32⟩
  | .hbm, ⟨65, _⟩ => ⟨S8x1024x3072, .f32⟩
  | .hbm, ⟨66, _⟩ => ⟨S8x1024x3072, .f32⟩
  | .hbm, ⟨67, _⟩ => ⟨S8x1024x3072, .f32⟩
  | .hbm, ⟨68, _⟩ => ⟨S1x8x3072x768, .f32⟩
  | .hbm, ⟨69, _⟩ => ⟨S8x3072x768, .f32⟩
  | .hbm, ⟨70, _⟩ => ⟨S8x1024x768, .f32⟩
  | .hbm, ⟨71, _⟩ => ⟨S8x1x768, .f32⟩
  | .hbm, ⟨72, _⟩ => ⟨S8x1024x768, .f32⟩
  | .hbm, ⟨73, _⟩ => ⟨S8x1024x768, .f32⟩
  | .hbm, ⟨74, _⟩ => ⟨S8x1024x768, .f32⟩
  | .hbm, ⟨75, _⟩ => ⟨S8192x768, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_3 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩

abbrev nD : Nat := 1
abbrev τ : Topo := Topo.v7x

variable {F : FTy → Type} [FloatOps F]
-- ==== Comb.lean ====
abbrev S2048x768 : Shape := ⟨2, ![2048, 768]⟩
abbrev S4096x768 : Shape := ⟨2, ![4096, 768]⟩
abbrev S2048x128 : Shape := ⟨2, ![2048, 128]⟩
abbrev S768 : Shape := ⟨1, ![768]⟩
abbrev S1x768 : Shape := ⟨2, ![1, 768]⟩
abbrev S512x768 : Shape := ⟨2, ![512, 768]⟩
abbrev S512x128 : Shape := ⟨2, ![512, 128]⟩
abbrev S512x1 : Shape := ⟨2, ![512, 1]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S2048x768, .f32⟩
  | .hbm, ⟨1, _⟩ => ⟨S4096x768, .f32⟩
  | .hbm, ⟨2, _⟩ => ⟨S2048x128, .f32⟩
  | .hbm, ⟨3, _⟩ => ⟨S768, .f32⟩
  | .hbm, ⟨4, _⟩ => ⟨S768, .f32⟩
  | .hbm, ⟨5, _⟩ => ⟨S1x768, .f32⟩
  | .hbm, ⟨6, _⟩ => ⟨S1x768, .f32⟩
  | .hbm, ⟨7, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x128, .f32⟩
  | .local _ .vmem, ⟨7, _⟩ => ⟨S512x128, .f32⟩
  | .local _ .vmem, ⟨8, _⟩ => ⟨S1x768, .f32⟩
  | .local _ .vmem, ⟨9, _⟩ => ⟨S1x768, .f32⟩
  | .local _ .vmem, ⟨10, _⟩ => ⟨S512x768, .f32⟩
  | .local _ .vmem, ⟨11, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombRefIdeal.lean ====
abbrev S2048x768 : Shape := ⟨2, ![2048, 768]⟩
abbrev S4096x768 : Shape := ⟨2, ![4096, 768]⟩
abbrev S2048x128 : Shape := ⟨2, ![2048, 128]⟩
abbrev S768 : Shape := ⟨1, ![768]⟩
abbrev S2048x1 : Shape := ⟨2, ![2048, 1]⟩
abbrev S_ : Shape := ⟨0, ![]⟩
abbrev S2048 : Shape := ⟨1, ![2048]⟩
abbrev S1x768 : Shape := ⟨2, ![1, 768]⟩

abbrev nBuf : Space → Nat
  | .hbm => 59
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S4096x768, .f32⟩
  | .hbm, ⟨2, _⟩ => ⟨S2048x128, .f32⟩
  | .hbm, ⟨3, _⟩ => ⟨S768, .f32⟩
  | .hbm, ⟨4, _⟩ => ⟨S768, .f32⟩
  | .hbm, ⟨5, _⟩ => ⟨S2048x768, .f32⟩
  | .hbm, ⟨6, _⟩ => ⟨S2048x1, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x1, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .i32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x768, .f32⟩
  | .hbm, ⟨29, _⟩ => ⟨S2048x768, .f32⟩
  | .hbm, ⟨30, _⟩ => ⟨S2048x768, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x768, .f32⟩
  | .hbm, ⟨46, _⟩ => ⟨S2048x768, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x768, .f32⟩
  | .hbm, ⟨52, _⟩ => ⟨S2048x768, .f32⟩
  | .hbm, ⟨53, _⟩ => ⟨S1x768, .f32⟩
  | .hbm, ⟨54, _⟩ => ⟨S2048x768, .f32⟩
  | .hbm, ⟨55, _⟩ => ⟨S2048x768, .f32⟩
  | .hbm, ⟨56, _⟩ => ⟨S1x768, .f32⟩
  | .hbm, ⟨57, _⟩ => ⟨S2048x768, .f32⟩
  | .hbm, ⟨58, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩

abbrev nD : Nat := 1
abbrev τ : Topo := Topo.v7x

variable {F : FTy → Type} [FloatOps F]
-- ==== Proof.QkvValue.lean ====
/- The projection call against its reference: each output element is the row's product with a weight row, plus the bias. -/
module

public import proofs.«01_k».proof.Proof.Gen.QkvIdeal.Value
public import Idealize.ShloMosaic.Lib.Pointwise
public import Idealize.ShloMosaic.Lib.Pipeline.ValueKit
public import proofs.«01_k».proof.Proof.Gen.QkvRefIdeal.Read
public import proofs.«01_k».proof.Proof.Gen.QkvRefIdeal.Run
public import proofs.«01_k».proof.Defs

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.Sem

variable (m : (ℓ : Loc nD τ sig) → Buf (Elt Ideal) ℓ)

/-! ## The grid and the blocks -/

/-- There are twelve points. -/
theorem lt12 (t : Fin grid0.N) : t.val < 12 := Nat.lt_of_lt_of_eq t.isLt N_0

/-- The word of a point's first coordinate, its block of columns. -/
theorem w0 (t : Fin grid0.N) : (BitVec.ofNat 32 (grid0.coords t 0).val).toNat = t.val / 4 := by
  have ht := lt12 t
  have h : (grid0.coords t 0).val = t.val / 4 % 3 := Pipeline.Grid.coords_val t 0 (by decide) rfl
  rw [h, BitVec.toNat_ofNat]
  omega

/-- The word of its second coordinate, its block of rows. -/
theorem w1 (t : Fin grid0.N) : (BitVec.ofNat 32 (grid0.coords t 1).val).toNat = t.val % 4 := by
  have h : (grid0.coords t 1).val = t.val / 1 % 4 := Pipeline.Grid.coords_val t 1 (by decide) rfl
  rw [h, BitVec.toNat_ofNat]
  omega

/-- Row `r` of point `t`'s block of rows. -/
abbrev row (t : Fin grid0.N) (r : Fin 512) : Fin 2048 := ⟨t.val % 4 * 512 + r.val, by omega⟩

/-- Column `j` of point `t`'s block of columns. -/
abbrev col (t : Fin grid0.N) (j : Fin 768) : Fin 2304 := ⟨t.val / 4 * 768 + j.val, by have := lt12 t; omega⟩

/-- The input blocks at point `t`, at their literal shapes. -/
def bk0 (c : Dev nD) (t : Fin cfg0.N) : Vec Ideal S512x768 .f32 := iblk m c 0 t
def bk1 (c : Dev nD) (t : Fin cfg0.N) : Vec Ideal S768x768 .f32 := iblk m c 1 t
def bk2 (c : Dev nD) (t : Fin cfg0.N) : Vec Ideal S1x768 .f32 := iblk m c 2 t

/-- The input block holds the point's rows. -/
theorem bk0_at (c : Dev nD) (t : Fin cfg0.N) (r : Fin 512) (j : Fin 768) :
    bk0 m c t (ix2 r j) = m ((c.tc : Thread nD τ).loc main_arg0) (ix2 (row t r) j) := by
  have e : ((cfg0.win 0).blk t).view.emb (ix2 r j) = (ix2 (row t r) j : S2048x768.Idx) :=
    funext fun (a : Fin 2) => Fin.ext <| (Pipeline.Window.rect_emb_val (cfg0.win 0) t (ix2 r j) a).trans <|
      match a with
      | 0 => congrArg (fun x => x * 512 + r.val) (w1 t)
      | 1 => Nat.zero_add _
  unfold bk0
  blk_simp [iblk]
  exact (congrArg (V m c main_arg0) e).trans (congrFun (V_main_arg0 m c) _)

/-- The weights' block holds the point's columns' rows. -/
theorem bk1_at (c : Dev nD) (t : Fin cfg0.N) (j k : Fin 768) :
    bk1 m c t (ix2 j k) = m ((c.tc : Thread nD τ).loc main_arg1) (ix2 (col t j) k) := by
  have e : ((cfg0.win 1).blk t).view.emb (ix2 j k) = (ix2 (col t j) k : S2304x768.Idx) :=
    funext fun (a : Fin 2) => Fin.ext <| (Pipeline.Window.rect_emb_val (cfg0.win 1) t (ix2 j k) a).trans <|
      match a with
      | 0 => congrArg (fun x => x * 768 + j.val) (w0 t)
      | 1 => Nat.zero_add _
  unfold bk1
  blk_simp [iblk]
  exact (congrArg (V m c main_arg1) e).trans (congrFun (V_main_arg1 m c) _)

/-- The host reshapes the bias for the call. -/
theorem V0 (c : Dev nD) : V m c main_v0 = shapeCast S1x2304 (m ((c.tc : Thread nD τ).loc main_arg2)) shapeCasts_S2304_S1x2304 := by
  simp only [V, hostOps0, List.flatten_cons, List.flatten_nil, List.append_nil, List.cons_append, List.nil_append]
  after_results
  rfl

/-- The bias' block holds the point's columns. -/
theorem bk2_at (c : Dev nD) (t : Fin cfg0.N) (j : Fin 768) :
    bk2 m c t (ix2 0 j) = m ((c.tc : Thread nD τ).loc main_arg2) (ix1 (col t j)) := by
  have e : ((cfg0.win 2).blk t).view.emb (ix2 0 j) = (ix2 0 (col t j) : S1x2304.Idx) :=
    funext fun (a : Fin 2) => Fin.ext <| (Pipeline.Window.rect_emb_val (cfg0.win 2) t (ix2 0 j) a).trans <|
      match a with
      | 0 => rfl
      | 1 => congrArg (fun x => x * 768 + j.val) (w0 t)
  unfold bk2
  blk_simp [iblk]
  refine (congrArg (V m c main_v0) e).trans ?_
  rw [V0]
  pointwise

/-- The output's block lies at the point's rows and columns. -/
theorem emb3 (t : Fin cfg0.N) (r : Fin 512) (j : Fin 768) :
    ((cfg0.win 3).blk t).view.emb (ix2 r j) = (ix2 (row t r) (col t j) : S2048x2304.Idx) :=
  funext fun (a : Fin 2) => Fin.ext <| (Pipeline.Window.rect_emb_val (cfg0.win 3) t (ix2 r j) a).trans <|
    match a with
    | 0 => congrArg (fun x => x * 512 + r.val) (w1 t)
    | 1 => congrArg (fun x => x * 768 + j.val) (w0 t)

/-! ## The values -/

/-- What the body stores, element by element. -/
theorem pay_at (x : Vec Ideal S512x768 .f32) (w : Vec Ideal S768x768 .f32) (b : Vec Ideal S1x768 .f32) (r : Fin 512) (j : Fin 768) :
    k0_pay1 x w b (ix2 r j) = (∑ k : Fin 768, x (ix2 r k) * w (ix2 j k)) + b (ix2 0 j) := by
  pointwise [k0_pay1]

/-- The reference's element: the row's product with the weight row, plus the bias. -/
theorem ref_at (x : FVec Ideal S2048x768 .f32) (w : FVec Ideal S2304x768 .f32) (b : FVec Ideal S2304 .f32) (R : Fin 2048) (J : Fin 2304) :
    Cert.QkvRefIdeal.Read.val_main_v4 (F := Ideal) x w b (ix2 R J) = (∑ k : Fin 768, x (ix2 R k) * w (ix2 J k)) + b (ix1 J) := by
  pointwise [Cert.QkvRefIdeal.Read.val_main_v4, Cert.QkvRefIdeal.Read.val_main_v3, Cert.QkvRefIdeal.Read.val_main_v2, Cert.QkvRefIdeal.Read.val_main_v1, Cert.QkvRefIdeal.Read.val_main_v0]

/-- The call's output array is the reference's. -/
theorem arr (c : Dev nD) : (dats m 0 c).arrAt 3 cfg0.N
    = Cert.QkvRefIdeal.Read.val_main_v4 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  obtain ⟨r, q, rfl⟩ := (fun y => ⟨y 0, y 1, eq_ix2 y⟩ : ∀ y : S512x768.Idx, ∃ (r : Fin 512) (q : Fin 768), y = ix2 r q) y
  rw [emb3 t r q, ref_at]
  refine (pay_at (bk0 m c t) (bk1 m c t) (bk2 m c t) r q).trans ?_
  simp only [bk0_at, bk1_at, bk2_at]

/-- The call and its reference end with the same result. -/
theorem algebraic : Cert.algebraic_QkvIdeal_QkvRefIdeal := fun m ρ m' ρ' _ hag =>
  ⟨fun c => (dats m 0 c).arrAt 3 cfg0.N, Value.run_blocks m ρ,
    (θ_run Cert.QkvRefIdeal.defs _ _).mono (fun _ h c => ⟨by
      have hc := hag c
      rw [(h c).1, Cert.QkvRefIdeal.Read.val_main_v4_eq, hc.1, hc.2.1, hc.2.2]
      exact (arr m c).symm, (h c).2⟩)
      (Cert.QkvRefIdeal.Value.run m' ρ')⟩

end Cert.QkvIdeal.Hand

end
-- ==== Proof.Scalar.lean ====
/- Facts about single extended reals that the calls' values share: the constants the programs print, and the layer
   normalization's two spellings (a product with a reciprocal root, a quotient by a root). -/
module

public import Idealize.ShloMosaic.Lib.Pointwise
public import Idealize.ShloMosaic.PureOps.Ideal.Laws

@[expose] public section

noncomputable section

namespace Cert.Scalar

open Idealize.ShloMosaic

/-- The row length's word is 768. -/
theorem bits_768 : Ideal.ofBits .f32 0x44400000#32 = ((768 : ℝ) : EReal) := by
  simp [Ideal.ofBits, Ideal.ieee, -EReal.coe_mul]; norm_num

/-- The layer normalization's offset is above zero. -/
theorem bits_eps_pos : 0 < Ideal.ofBits .f32 0x3727C5AC#32 := by
  simp [Ideal.ofBits, Ideal.ieee, -EReal.coe_mul]

/-- A square is not negative. -/
theorem sq_nonneg (x : EReal) : 0 ≤ x * x := by
  induction x with
  | bot => simp
  | top => simp
  | coe r => rw [← EReal.coe_mul]; exact_mod_cast mul_self_nonneg r

/-- A quotient by the row length of something not negative is not negative. -/
theorem div_768_nonneg (s : EReal) (h : 0 ≤ s) : 0 ≤ Ideal.div s (Ideal.ofBits .f32 0x44400000#32) := by
  rw [bits_768, Ideal.div_coe (by norm_num : (768 : ℝ) ≠ 0)]
  exact mul_nonneg h (by exact_mod_cast (by norm_num : (0 : ℝ) ≤ 1 / 768))

/-- The mean of squares plus the offset is above zero. -/
theorem var_pos {n : ℕ} (f : Fin n → EReal) :
    0 < Ideal.div (∑ k, f k * f k) (Ideal.ofBits .f32 0x44400000#32) + Ideal.ofBits .f32 0x3727C5AC#32 :=
  lt_of_lt_of_le bits_eps_pos (le_add_of_nonneg_left (div_768_nonneg _ (Finset.sum_nonneg fun k _ => sq_nonneg (f k))))

/-- Above zero, a quotient by a root is the product with the reciprocal root. -/
theorem div_sqrt (d y : EReal) (h : 0 < y) : Ideal.div d (Ideal.sqrt y) = d * Ideal.rsqrt y := by
  induction y with
  | bot => simp at h
  | top => rw [Ideal.sqrt_top, Ideal.rsqrt_top]; simp [Ideal.div]
  | coe r =>
    have hr : 0 < r := by exact_mod_cast h
    have hs : Real.sqrt r ≠ 0 := (Real.sqrt_pos.mpr hr).ne'
    rw [Ideal.sqrt_coe, if_neg hr.le.not_gt, Ideal.rsqrt_coe, if_neg hr.le.not_gt, if_neg hr.ne', Ideal.div_coe hs, one_div]

/-- The layer normalization of a row: `row` the row, `x` its element, scaled by `g` and shifted by `b`. -/
def ln {n : ℕ} (row : Fin n → EReal) (x g b : EReal) : EReal :=
  let mean := Ideal.div (∑ k, row k) (Ideal.ofBits .f32 0x44400000#32)
  (x - mean) * Ideal.rsqrt (Ideal.div (∑ k, (row k - mean) * (row k - mean)) (Ideal.ofBits .f32 0x44400000#32)
    + Ideal.ofBits .f32 0x3727C5AC#32) * g + b

/-- The two spellings agree. -/
theorem ln_eq {n : ℕ} (row : Fin n → EReal) (x g b : EReal) :
    Ideal.div (x - Ideal.div (∑ k, row k) (Ideal.ofBits .f32 0x44400000#32))
      (Ideal.sqrt (Ideal.div (∑ k, (row k - Ideal.div (∑ k, row k) (Ideal.ofBits .f32 0x44400000#32)) * (row k - Ideal.div (∑ k, row k) (Ideal.ofBits .f32 0x44400000#32)))
        (Ideal.ofBits .f32 0x44400000#32) + Ideal.ofBits .f32 0x3727C5AC#32)) * g + b = ln row x g b := by
  rw [div_sqrt _ _ (var_pos fun k => row k - Ideal.div (∑ k, row k) (Ideal.ofBits .f32 0x44400000#32))]
  rfl

/-- The exact Gaussian error unit, as the kernel spells it. -/
def gelu (x : EReal) : EReal :=
  Ideal.ofBits .f32 0x3F000000#32 * x * (1 + Ideal.erf (x * Ideal.ofBits .f32 0x3F3504F3#32))

/-- The reference's spelling, over the complementary error function of the negated argument, is the same. -/
theorem gelu_eq (x : EReal) :
    Ideal.ofBits .f32 0x3F000000#32 * x * Ideal.erfc (-x * Ideal.ofBits .f32 0x3F3504F3#32) = gelu x := by
  rw [neg_mul, Ideal.erfc_neg]; rfl

/-- The references' variance divides by the row length less zero degrees of freedom, which is the row length. -/
theorem len_sub : Ideal.ofBits .f32 0x44400000#32 - FloatOps.sitofp (F := Ideal) .f32 (0#32) = Ideal.ofBits .f32 0x44400000#32 := by
  show Ideal.ofBits .f32 0x44400000#32 - (((0#32 : BitVec 32).toInt : ℝ) : EReal) = _
  simp

/-- That row length is above zero, so the reference's variance is never the filler. -/
theorem len_pos : (0 : EReal) < Ideal.ofBits .f32 0x44400000#32 := by
  rw [bits_768]; exact_mod_cast (by norm_num : (0 : ℝ) < 768)

end Cert.Scalar
-- ==== Proof.MegaRef.lean ====
/- The attention call's reference, stage by stage: what each named value is at an index, in scalar sums. -/
module

public import proofs.«01_k».proof.Proof.Scalar
public import proofs.«01_k».proof.Proof.Gen.MegaRefIdeal.Read

@[expose] public section

set_option maxRecDepth 16384

noncomputable section

namespace Cert.MegaRefIdeal.Hand

open Cert.MegaRefIdeal Cert.MegaRefIdeal.Read Cert.Scalar
open Idealize.ShloMosaic Idealize.ShloMosaic.TcCoe Idealize.ShloMosaic.Tactic

/-! ## One attention head -/

/-- A scaled score: the product of a query and a key row, an eighth of it. -/
def score (q k : Fin 64 → EReal) : EReal := (∑ e, q e * k e) * Ideal.ofBits .f32 0x3E000000#32

/-- The greatest score of a row. -/
def top {n : ℕ} (s : Fin n → EReal) : EReal := Finset.univ.fold max (Ideal.ofBits .f32 0xFF800000#32) s

/-- A row's softmax at one place. -/
def soft {n : ℕ} (s : Fin n → EReal) (k : Fin n) : EReal :=
  Ideal.div (Ideal.exp (s k - top s)) (∑ j, Ideal.exp (s j - top s))

/-- Column `e` of head `h`'s queries. -/
abbrev qcol (h : Fin 12) (e : Fin 64) : Fin 2304 := ⟨h.val * 64 + e.val, by omega⟩

/-- Column `e` of head `h`'s keys. -/
abbrev kcol (h : Fin 12) (e : Fin 64) : Fin 2304 := ⟨768 + (h.val * 64 + e.val), by omega⟩

/-- Column `e` of head `h`'s values. -/
abbrev vcol (h : Fin 12) (e : Fin 64) : Fin 2304 := ⟨1536 + (h.val * 64 + e.val), by omega⟩

/-- Head `h`'s output for the token at row `R`, lane `d`: the values weighed by the softmax of the row's scores. -/
def head (X : FVec Ideal S2048x2304 .f32) (h : Fin 12) (R : Fin 2048) (d : Fin 64) : EReal :=
  ∑ k : Fin 2048, soft (fun j : Fin 2048 => score (fun e => X (ix2 R (qcol h e))) (fun e => X (ix2 j (kcol h e)))) k * X (ix2 k (vcol h d))

/-- The word of the root's operand is sixty-four. -/
theorem bits_64 : Ideal.ofBits .f32 0x42800000#32 = ((64 : ℝ) : EReal) := by
  simp [Ideal.ofBits, Ideal.ieee, -EReal.coe_mul]; norm_num

/-- The word of the scale is an eighth. -/
theorem bits_eighth : Ideal.ofBits .f32 0x3E000000#32 = ((1 / 8 : ℝ) : EReal) := by
  simp [Ideal.ofBits, Ideal.ieee, -EReal.coe_mul]; norm_num

/-- A quotient by the root of sixty-four is an eighth. -/
theorem div_root (x : EReal) : Ideal.div x (Ideal.sqrt (Ideal.ofBits .f32 0x42800000#32)) = x * Ideal.ofBits .f32 0x3E000000#32 := by
  rw [bits_64, bits_eighth, Ideal.sqrt_coe, show Real.sqrt 64 = 8 by
    rw [show (64 : ℝ) = 8 ^ 2 by norm_num]; exact Real.sqrt_sq (by norm_num), if_neg (by norm_num), Ideal.div_coe (by norm_num : (8 : ℝ) ≠ 0)]

/-- The maximum's start is the least value. -/
theorem bits_bot : Ideal.ofBits .f32 0xFF800000#32 = (⊥ : EReal) := by
  simp [Ideal.ofBits, Ideal.ieee]

variable (x0 : FVec Ideal S2048x2304 .f32) (x1 : FVec Ideal S768x768 .f32) (x2 : FVec Ideal S768 .f32) (x3 : FVec Ideal S2048x768 .f32)
  (x4 x5 : FVec Ideal S768 .f32)

/-- The scaled scores. -/
theorem v14_at (h : Fin 12) (r k : Fin 2048) :
    val_main_v14 (F := Ideal) x0 (ix3 h r k) = score (fun e => x0 (ix2 r (qcol h e))) (fun e => x0 (ix2 k (kcol h e))) := by
  refine Eq.trans ?_ (div_root _)
  pointwise [val_main_v14, val_main_v13, val_main_v12, val_main_v11, val_main_cst, val_main_v10, val_main_v9, val_main_v6, val_main_v5, val_main_v4, val_main_v3, val_main_v1, val_main_v0]
  rfl

/-- Each row's greatest score. -/
theorem v15_at (h : Fin 12) (r : Fin 2048) :
    val_main_v15 (F := Ideal) x0 (ix2 h r) = top fun k : Fin 2048 => val_main_v14 (F := Ideal) x0 (ix3 h r k) := by
  unfold val_main_v15 top
  generalize val_main_v14 (F := Ideal) x0 = y
  pointwise [val_main_cst_0]

/-- The guard against an empty row changes nothing. -/
theorem v17_at (h : Fin 12) (r : Fin 2048) : val_main_v17 (F := Ideal) x0 (ix2 h r) = val_main_v15 (F := Ideal) x0 (ix2 h r) := by
  rw [val_main_v17_apply, val_main_v16_apply, val_main_cst_1_apply]
  generalize val_main_v15 (F := Ideal) x0 = y
  show max (Ideal.ofBits .f32 0xFF800000#32) _ = _
  rw [bits_bot]
  exact max_eq_right bot_le

/-- The exponentials of the scores less the greatest. -/
theorem v21_at (h : Fin 12) (r k : Fin 2048) : val_main_v21 (F := Ideal) x0 (ix3 h r k)
    = Ideal.exp (val_main_v14 (F := Ideal) x0 (ix3 h r k) - val_main_v17 (F := Ideal) x0 (ix2 h r)) := by
  pointwise [val_main_v21, val_main_v20, val_main_v19, val_main_v18]

/-- Their sum along the row. -/
theorem v22_at (h : Fin 12) (r : Fin 2048) : val_main_v22 (F := Ideal) x0 (ix2 h r) = ∑ k, val_main_v21 (F := Ideal) x0 (ix3 h r k) := by
  pointwise [val_main_v22, val_main_cst_2]

/-- The weights. -/
theorem v25_at (h : Fin 12) (r k : Fin 2048) : val_main_v25 (F := Ideal) x0 (ix3 h r k)
    = Ideal.div (val_main_v21 (F := Ideal) x0 (ix3 h r k)) (val_main_v22 (F := Ideal) x0 (ix2 h r)) := by
  pointwise [val_main_v25, val_main_v24, val_main_v23]

/-- The values, head by head. -/
theorem v8_at (h : Fin 12) (r : Fin 2048) (d : Fin 64) : val_main_v8 (F := Ideal) x0 (ix3 h r d) = x0 (ix2 r (vcol h d)) := by
  pointwise [val_main_v8, val_main_v7, val_main_v2]

/-- The weighed values. -/
theorem v26_at (h : Fin 12) (r : Fin 2048) (d : Fin 64) : val_main_v26 (F := Ideal) x0 (ix3 h r d)
    = ∑ k, val_main_v25 (F := Ideal) x0 (ix3 h r k) * val_main_v8 (F := Ideal) x0 (ix3 h k d) := by
  pointwise [val_main_v26]

/-- A head's output is the one named. -/
theorem head_at (h : Fin 12) (r : Fin 2048) (d : Fin 64) : val_main_v26 (F := Ideal) x0 (ix3 h r d) = head x0 h r d := by
  simp only [v26_at, v25_at, v22_at, v21_at, v17_at, v15_at, v14_at, v8_at, head, soft]

/-- Lane `i` of the heads side by side. -/
def att (R : Fin 2048) (i : Fin 768) : EReal := head x0 ⟨i.val / 64, by omega⟩ R ⟨i.val % 64, by omega⟩

/-- A token after attention and its projection, before the normalization. -/
def res (R : Fin 2048) (J : Fin 768) : EReal := x3 (ix2 R J) + (∑ i : Fin 768, att x0 R i * x1 (ix2 J i) + x2 (ix1 J))

/-- The residual sum. -/
theorem v34_at (R : Fin 2048) (J : Fin 768) : val_main_v34 (F := Ideal) x0 x1 x2 x3 (ix2 R J) = res x0 x1 x2 x3 R J := by
  refine Eq.trans (b := x3 (ix2 R J) + (∑ i : Fin 768, val_main_v26 (F := Ideal) x0 (ix3 (⟨i.val / 64, by omega⟩ : Fin 12) R (⟨i.val % 64, by omega⟩ : Fin 64)) * x1 (ix2 J i) + x2 (ix1 J))) ?_ ?_
  · pointwise [val_main_v34, val_main_v33, val_main_v32, val_main_v31, val_main_v30, val_main_v29, val_main_v28, val_main_v27]
  · simp only [head_at, res, att]

/-- The first result: the normalization of the token's row. -/
theorem v52_at (R : Fin 2048) (J : Fin 768) : val_main_v52 (F := Ideal) x0 x1 x2 x3 x4 x5 (ix2 R J)
    = ln (fun i => res x0 x1 x2 x3 R i) (res x0 x1 x2 x3 R J) (x4 (ix1 J)) (x5 (ix1 J)) := by
  simp only [← v34_at]
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst_3, val_main_cst_4, val_main_cst_5, val_main_c, val_main_call0_cst, val_main_call0_cst_0, val_main_call0_cst_1, val_main_call0_cst_2, val_main_call0_cst_3, val_main_call0_cst_4, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_call0_v0, val_main_call0_call0_v1]
  rw [len_sub, if_pos len_pos]
  exact ln_eq (fun i => val_main_v34 (F := Ideal) x0 x1 x2 x3 (ix2 R i)) _ _ _

end Cert.MegaRefIdeal.Hand

end
-- ==== Proof.MegaValue.lean ====
/- The attention call against its reference: twelve heads, their projection, the residual sum and its normalization. -/
module

public import proofs.«01_k».proof.Proof.Gen.MegaIdeal.Value
public import proofs.«01_k».proof.Proof.MegaRef
public import Idealize.ShloMosaic.Lib.Pipeline.ValueKit
public import Idealize.ShloMosaic.Lib.Pipeline.ReadBack

@[expose] public section

set_option maxRecDepth 16384

noncomputable section

namespace Cert.MegaIdeal.Hand

open Cert.MegaIdeal Cert.MegaIdeal.Gen Cert.Scalar
open Cert.MegaRefIdeal.Hand (score top soft qcol kcol vcol head att res)
open Idealize.ShloMosaic Idealize.ShloMosaic.TcCoe Idealize.ShloMosaic.Tactic
open Idealize.SL Idealize.SL.RA Idealize.SL.Sem

variable (m : (ℓ : Loc nD τ sig) → Buf (Elt Ideal) ℓ)

/-! ## The grid and the blocks -/

/-- There are four points. -/
theorem lt4 (t : Fin grid0.N) : t.val < 4 := Nat.lt_of_lt_of_eq t.isLt N_0

/-- A point's coordinate is its number. -/
theorem co (t : Fin grid0.N) : (grid0.coords t 0).val = t.val := by
  have ht := lt4 t
  have h : (grid0.coords t 0).val = t.val / 1 % 4 := Pipeline.Grid.coords_val t 0 (by decide) rfl
  rw [h]
  omega

/-- The word of the coordinate. -/
theorem w0 (t : Fin grid0.N) : (BitVec.ofNat 32 (grid0.coords t 0).val).toNat = t.val := by
  have ht := lt4 t
  rw [co, BitVec.toNat_ofNat]
  omega

/-- Row `r` of point `t`'s block. -/
abbrev row (t : Fin grid0.N) (r : Fin 512) : Fin 2048 := ⟨t.val * 512 + r.val, by have := lt4 t; omega⟩

/-- The input blocks at point `t`, at their literal shapes. -/
def bk0 (c : Dev nD) (t : Fin cfg0.N) : Vec Ideal S2048x2304 .f32 := iblk m c 0 t
def bk1 (c : Dev nD) (t : Fin cfg0.N) : Vec Ideal S768x768 .f32 := iblk m c 1 t
def bk2 (c : Dev nD) (t : Fin cfg0.N) : Vec Ideal S1x768 .f32 := iblk m c 2 t
def bk3 (c : Dev nD) (t : Fin cfg0.N) : Vec Ideal S512x768 .f32 := iblk m c 3 t
def bk4 (c : Dev nD) (t : Fin cfg0.N) : Vec Ideal S1x768 .f32 := iblk m c 4 t
def bk5 (c : Dev nD) (t : Fin cfg0.N) : Vec Ideal S1x768 .f32 := iblk m c 5 t
def bk6 (c : Dev nD) (t : Fin cfg0.N) : Vec Ideal S768x128 .f32 := iblk m c 6 t
def bk7 (c : Dev nD) (t : Fin cfg0.N) : Vec Ideal S1x128 .f32 := iblk m c 7 t

/-- The projected queries, keys and values, whole at every point. -/
theorem bk0_eq (c : Dev nD) (t : Fin cfg0.N) : bk0 m c t = m ((c.tc : Thread nD τ).loc main_arg0) := by
  funext y
  have e : ((cfg0.win 0).blk t).view.emb y = (y : S2048x2304.Idx) :=
    funext fun (a : Fin 2) => Fin.ext <| (Pipeline.Window.rect_emb_val (cfg0.win 0) t y a).trans <|
      match a with
      | 0 => Nat.zero_add _
      | 1 => Nat.zero_add _
  unfold bk0
  blk_simp [iblk]
  exact (congrArg (V m c main_arg0) e).trans (congrFun (V_main_arg0 m c) _)

/-- The output projection, whole at every point. -/
theorem bk1_eq (c : Dev nD) (t : Fin cfg0.N) : bk1 m c t = m ((c.tc : Thread nD τ).loc main_arg1) := by
  funext y
  have e : ((cfg0.win 1).blk t).view.emb y = (y : S768x768.Idx) :=
    funext fun (a : Fin 2) => Fin.ext <| (Pipeline.Window.rect_emb_val (cfg0.win 1) t y a).trans <|
      match a with
      | 0 => Nat.zero_add _
      | 1 => Nat.zero_add _
  unfold bk1
  blk_simp [iblk]
  exact (congrArg (V m c main_arg1) e).trans (congrFun (V_main_arg1 m c) _)

/-- The tokens' block holds the point's rows. -/
theorem bk3_at (c : Dev nD) (t : Fin cfg0.N) (r : Fin 512) (j : Fin 768) :
    bk3 m c t (ix2 r j) = m ((c.tc : Thread nD τ).loc main_arg3) (ix2 (row t r) j) := by
  have e : ((cfg0.win 3).blk t).view.emb (ix2 r j) = (ix2 (row t r) j : S2048x768.Idx) :=
    funext fun (a : Fin 2) => Fin.ext <| (Pipeline.Window.rect_emb_val (cfg0.win 3) t (ix2 r j) a).trans <|
      match a with
      | 0 => congrArg (fun x => x * 512 + r.val) (w0 t)
      | 1 => Nat.zero_add _
  unfold bk3
  blk_simp [iblk]
  exact (congrArg (V m c main_arg3) e).trans (congrFun (V_main_arg3 m c) _)

/-- The host reshapes the output projection's shift for the call. -/
theorem V4 (c : Dev nD) : V m c main_v4 = shapeCast S1x768 (m ((c.tc : Thread nD τ).loc main_arg2)) shapeCasts_S768_S1x768 := by
  simp only [V, hostOps0, List.flatten_cons, List.flatten_nil, List.append_nil, List.cons_append, List.nil_append]
  after_results
  rfl

/-- The output projection's shift, whole at every point. -/
theorem bk2_at (c : Dev nD) (t : Fin cfg0.N) (j : Fin 768) :
    bk2 m c t (ix2 0 j) = m ((c.tc : Thread nD τ).loc main_arg2) (ix1 j) := by
  have e : ((cfg0.win 2).blk t).view.emb (ix2 0 j) = (ix2 0 j : S1x768.Idx) :=
    funext fun (a : Fin 2) => Fin.ext <| (Pipeline.Window.rect_emb_val (cfg0.win 2) t (ix2 0 j) a).trans <|
      match a with
      | 0 => rfl
      | 1 => Nat.zero_add _
  unfold bk2
  blk_simp [iblk]
  refine (congrArg (V m c main_v4) e).trans ?_
  rw [V4]
  pointwise

/-- The host reshapes the normalization's scale for the call. -/
theorem V5 (c : Dev nD) : V m c main_v5 = shapeCast S1x768 (m ((c.tc : Thread nD τ).loc main_arg4)) shapeCasts_S768_S1x768 := by
  simp only [V, hostOps0, List.flatten_cons, List.flatten_nil, List.append_nil, List.cons_append, List.nil_append]
  after_results
  rfl

/-- The normalization's scale, whole at every point. -/
theorem bk4_at (c : Dev nD) (t : Fin cfg0.N) (j : Fin 768) :
    bk4 m c t (ix2 0 j) = m ((c.tc : Thread nD τ).loc main_arg4) (ix1 j) := by
  have e : ((cfg0.win 4).blk t).view.emb (ix2 0 j) = (ix2 0 j : S1x768.Idx) :=
    funext fun (a : Fin 2) => Fin.ext <| (Pipeline.Window.rect_emb_val (cfg0.win 4) t (ix2 0 j) a).trans <|
      match a with
      | 0 => rfl
      | 1 => Nat.zero_add _
  unfold bk4
  blk_simp [iblk]
  refine (congrArg (V m c main_v5) e).trans ?_
  rw [V5]
  pointwise

/-- The host reshapes the normalization's shift for the call. -/
theorem V6 (c : Dev nD) : V m c main_v6 = shapeCast S1x768 (m ((c.tc : Thread nD τ).loc main_arg5)) shapeCasts_S768_S1x768 := by
  simp only [V, hostOps0, List.flatten_cons, List.flatten_nil, List.append_nil, List.cons_append, List.nil_append]
  after_results
  rfl

/-- The normalization's shift, whole at every point. -/
theorem bk5_at (c : Dev nD) (t : Fin cfg0.N) (j : Fin 768) :
    bk5 m c t (ix2 0 j) = m ((c.tc : Thread nD τ).loc main_arg5) (ix1 j) := by
  have e : ((cfg0.win 5).blk t).view.emb (ix2 0 j) = (ix2 0 j : S1x768.Idx) :=
    funext fun (a : Fin 2) => Fin.ext <| (Pipeline.Window.rect_emb_val (cfg0.win 5) t (ix2 0 j) a).trans <|
      match a with
      | 0 => rfl
      | 1 => Nat.zero_add _
  unfold bk5
  blk_simp [iblk]
  refine (congrArg (V m c main_v6) e).trans ?_
  rw [V6]
  pointwise

/-- The first output's block lies at the point's rows. -/
theorem emb8 (t : Fin cfg0.N) (r : Fin 512) (j : Fin 768) :
    ((cfg0.win 8).blk t).view.emb (ix2 r j) = (ix2 (row t r) j : S2048x768.Idx) :=
  funext fun (a : Fin 2) => Fin.ext <| (Pipeline.Window.rect_emb_val (cfg0.win 8) t (ix2 r j) a).trans <|
    match a with
    | 0 => congrArg (fun x => x * 512 + r.val) (w0 t)
    | 1 => Nat.zero_add _

/-! ## The heads -/

/-- A head's payload, element by element: the values weighed by the softmax of the row's scores. -/
theorem pay_head (q : Vec Ideal S512x64 .f32) (k v : Vec Ideal S2048x64 .f32) (r : Fin 512) (d : Fin 64) :
    k0_pay1 q k v (ix2 r d)
      = ∑ j : Fin 2048, soft (fun i : Fin 2048 => score (fun e => q (ix2 r e)) (fun e => k (ix2 i e))) j * v (ix2 j d) := by
  pointwise [k0_pay1]
  rfl

/-- A head's payload over the three parts of the projected array it loads. -/
theorem piece (X : Vec Ideal S2048x2304 .f32) (t : Fin grid0.N) (h : Fin 12) (oq ok ov : Fin 2 → ℕ)
    (hq : oq = ![t.val * 512, h.val * 64]) (hk : ok = ![0, 768 + h.val * 64]) (hv : ov = ![0, 1536 + h.val * 64])
    (iq : ∀ a, oq a + S512x64.size a ≤ S2048x2304.size a) (ik : ∀ a, ok a + S2048x64.size a ≤ S2048x2304.size a)
    (iv : ∀ a, ov a + S2048x64.size a ≤ S2048x2304.size a) (r : Fin 512) (d : Fin 64) :
    k0_pay1 (View.ld X (Rect.unit (s := S2048x2304) oq S512x64.size iq)) (View.ld X (Rect.unit (s := S2048x2304) ok S2048x64.size ik))
        (View.ld X (Rect.unit (s := S2048x2304) ov S2048x64.size iv)) (ix2 r d)
      = head X h (row t r) d := by
  subst hq hk hv
  refine (pay_head _ _ _ r d).trans ?_
  have eq : ∀ e : Fin 64, (View.ld X (Rect.unit (s := S2048x2304) _ S512x64.size iq) : Vec Ideal S512x64 .f32) (ix2 r e) = X (ix2 (row t r) (qcol h e)) := fun e =>
    congrArg X (funext fun (a : Fin 2) => Fin.ext <| match a with
      | 0 => (by show t.val * 512 + 1 * r.val = t.val * 512 + r.val; omega)
      | 1 => (by show h.val * 64 + 1 * e.val = h.val * 64 + e.val; omega))
  have ek : ∀ (j : Fin 2048) (e : Fin 64), (View.ld X (Rect.unit (s := S2048x2304) _ S2048x64.size ik) : Vec Ideal S2048x64 .f32) (ix2 j e) = X (ix2 j (kcol h e)) := fun j e =>
    congrArg X (funext fun (a : Fin 2) => Fin.ext <| match a with
      | 0 => (by show 0 + 1 * j.val = j.val; omega)
      | 1 => (by show 768 + h.val * 64 + 1 * e.val = 768 + (h.val * 64 + e.val); omega))
  have ev : ∀ (j : Fin 2048) (e : Fin 64), (View.ld X (Rect.unit (s := S2048x2304) _ S2048x64.size iv) : Vec Ideal S2048x64 .f32) (ix2 j e) = X (ix2 j (vcol h e)) := fun j e =>
    congrArg X (funext fun (a : Fin 2) => Fin.ext <| match a with
      | 0 => (by show 0 + 1 * j.val = j.val; omega)
      | 1 => (by show 1536 + h.val * 64 + 1 * e.val = 1536 + (h.val * 64 + e.val); omega))
  simp only [eq, ek, ev, head]

/-- Where head `h`'s payload lies in the accumulator, it agrees with the heads side by side. -/
theorem piece_att (X : Vec Ideal S2048x2304 .f32) (t : Fin grid0.N) (h : Fin 12) (P : Vec Ideal S512x64 .f32)
    (hP : ∀ r d, P (ix2 r d) = head X h (row t r) d) (o : Fin 2 → ℕ) (ho : o = ![0, h.val * 64])
    (io : ∀ a, o a + S512x64.size a ≤ S512x768.size a) (x : S512x64.Idx) :
    P x = (fun y : S512x768.Idx => att X (row t (y 0)) (y 1)) ((Rect.unit (s := S512x768) o S512x64.size io).emb x) := by
  subst ho
  obtain ⟨r, d, rfl⟩ := (fun y => ⟨y 0, y 1, eq_ix2 y⟩ : ∀ y : S512x64.Idx, ∃ (r : Fin 512) (d : Fin 64), y = ix2 r d) x
  have e : (Rect.unit (s := S512x768) ![0, h.val * 64] S512x64.size io).emb (ix2 r d) = (ix2 r (⟨h.val * 64 + d.val, by omega⟩ : Fin 768) : S512x768.Idx) :=
    funext fun (a : Fin 2) => Fin.ext <| match a with
      | 0 => (by show 0 + 1 * r.val = r.val; omega)
      | 1 => (by show h.val * 64 + 1 * d.val = h.val * 64 + d.val; omega)
  rw [hP, e]
  show head X h (row t r) d = att X (row t r) ⟨h.val * 64 + d.val, _⟩
  unfold att
  congr 1
  · exact Fin.ext (by show h.val = (h.val * 64 + d.val) / 64; omega)
  · exact Fin.ext (by show d.val = (h.val * 64 + d.val) % 64; omega)

/-- Each head's queries begin at the point's rows and the head's columns. -/
theorem qoff (t : Fin grid0.N) : k0_off1 (grid0.coords t) = ![t.val * 512, 0 * 64] ∧ k0_off2 (grid0.coords t) = ![t.val * 512, 1 * 64]
    ∧ k0_off3 (grid0.coords t) = ![t.val * 512, 2 * 64] ∧ k0_off4 (grid0.coords t) = ![t.val * 512, 3 * 64]
    ∧ k0_off5 (grid0.coords t) = ![t.val * 512, 4 * 64] ∧ k0_off6 (grid0.coords t) = ![t.val * 512, 5 * 64]
    ∧ k0_off7 (grid0.coords t) = ![t.val * 512, 6 * 64] ∧ k0_off8 (grid0.coords t) = ![t.val * 512, 7 * 64]
    ∧ k0_off9 (grid0.coords t) = ![t.val * 512, 8 * 64] ∧ k0_off10 (grid0.coords t) = ![t.val * 512, 9 * 64]
    ∧ k0_off11 (grid0.coords t) = ![t.val * 512, 10 * 64] ∧ k0_off12 (grid0.coords t) = ![t.val * 512, 11 * 64] := by
  revert t
  decide +kernel

/-! ## What a point leaves -/

/-- The normalized rows over the accumulated heads. -/
def norm (A : Vec Ideal S512x768 .f32) (c : Dev nD) (t : Fin cfg0.N) : Vec Ideal S512x768 .f32 :=
  k0_pay27 (k0_pay22 A (bk1 m c t) (bk2 m c t) (bk3 m c t)) (k0_pay23 (bk4 m c t)) (k0_pay24 (bk5 m c t))
    (k0_pay25 A (bk1 m c t) (bk2 m c t) (bk3 m c t)) k0_pay26

/-- The lane numbers. -/
def lanes : IVec S512x128 32 := iota .tc S512x128 32 [1] iota_S512x128_d1_w32

/-- The router's greatest logit of each row. -/
def great (A : Vec Ideal S512x768 .f32) (c : Dev nD) (t : Fin cfg0.N) : FVec Ideal S512x1 .f32 :=
  k0_pay30 (k0_pay22 A (bk1 m c t) (bk2 m c t) (bk3 m c t)) (k0_pay23 (bk4 m c t)) (k0_pay24 (bk5 m c t))
    (k0_pay25 A (bk1 m c t) (bk2 m c t) (bk3 m c t)) k0_pay26 (bk6 m c t) (bk7 m c t)

/-- The lane of the greatest logit of each row. -/
def first (A : Vec Ideal S512x768 .f32) (c : Dev nD) (t : Fin cfg0.N) : IVec S512x1 32 :=
  k0_pay31 (k0_pay22 A (bk1 m c t) (bk2 m c t) (bk3 m c t)) (k0_pay23 (bk4 m c t)) (k0_pay24 (bk5 m c t))
    (k0_pay25 A (bk1 m c t) (bk2 m c t) (bk3 m c t)) k0_pay26 (bk6 m c t) (bk7 m c t)

/-- The logits without each row's greatest. -/
def rest (A : Vec Ideal S512x768 .f32) (c : Dev nD) (t : Fin cfg0.N) : FVec Ideal S512x128 .f32 :=
  k0_pay32 (k0_pay22 A (bk1 m c t) (bk2 m c t) (bk3 m c t)) (k0_pay23 (bk4 m c t)) (k0_pay24 (bk5 m c t))
    (k0_pay25 A (bk1 m c t) (bk2 m c t) (bk3 m c t)) k0_pay26 (bk6 m c t) (bk7 m c t)

/-- The routing rows of a point, over the counts it starts from. -/
def route (A : Vec Ideal S512x768 .f32) (z : FVec Ideal S1x128 .f32) (c : Dev nD) (t : Fin cfg0.N) : FVec Ideal S512x128 .f32 :=
  k0_pay45 lanes (first m A c t) (k0_pay34 (F := Ideal) lanes (rest m A c t)) (k0_pay36 (great m A c t) (rest m A c t)) (k0_pay37 (great m A c t) (rest m A c t))
    (k0_pay42 lanes (first m A c t) (rest m A c t) z) (k0_pay43 lanes (first m A c t) (rest m A c t) z)

/-- The counts a point starts from: none at the first, else those the point before left. -/
def start (c : Dev nD) (t : Fin cfg0.N) : FVec Ideal S1x128 .f32 :=
  if t.val % 4 = 0 then k0_pay28 else (outsAt0 m c (t.val - 1) (Nat.lt_of_le_of_lt (Nat.sub_le _ _) t.isLt)).2.2

/-- A load of the whole accumulator reads every index at itself. -/
theorem whole_idx (r : Fin 512) (i : Fin 768) :
    (Rect.unit (s := S512x768) ![0, 0] ![512, 768] inb_S512x768_S512x768_0_0).toLoadRect.idx (ix2 r i) = (ix2 r i : S512x768.Idx) :=
  funext fun (a : Fin 2) => Fin.ext <| match a with
    | 0 => (by show 0 + 1 * r.val = r.val; omega)
    | 1 => (by show 0 + 1 * i.val = i.val; omega)

set_option maxHeartbeats 1000000 in
/-- The accumulator a point reads back holds the heads side by side; the point's results and the counts it leaves are
    payloads over it. -/
theorem acc (c : Dev nD) (t : Fin cfg0.N) : ∃ A : Vec Ideal S512x768 .f32,
    outsAt0 m c t.val t.isLt = (norm m A c t, route m A (start m c t) c t, k0_pay44 lanes (first m A c t) (rest m A c t) (start m c t))
    ∧ ∀ (r : Fin 512) (i : Fin 768), A (ix2 r i) = att (bk0 m c t) (row t r) i := by
  obtain ⟨q0, q1, q2, q3, q4, q5, q6, q7, q8, q9, q10, q11⟩ := qoff t
  unfold start
  by_cases h0 : t.val % 4 = 0
  case' pos => refine ⟨_, by rw [outsAt0_A m c t h0, if_pos h0]; frame_out; rfl, fun r i => ?_⟩
  case' neg => refine ⟨_, by rw [outsAt0_B m c t h0, if_neg h0]; frame_out; rw [read_unread_whole]; rfl, fun r i => ?_⟩
  all_goals
    rw [View.readCov_eq_canon']
    refine (View.canon_apply_of_pieces (fun y : S512x768.Idx => att (bk0 m c t) (row t (y 0)) (y 1)) _ ?_ _ ?_).trans (by rw [whole_idx r i]; rfl)
    · refine List.forall_mem_cons.2 ⟨piece_att (bk0 m c t) t 11 _ (piece (bk0 m c t) t 11 _ ![0, 1472] ![0, 2240] q11 rfl rfl _ _ _) ![0, 704] rfl inb_S512x768_S512x64_0_704, ?_⟩
      refine List.forall_mem_cons.2 ⟨piece_att (bk0 m c t) t 10 _ (piece (bk0 m c t) t 10 _ ![0, 1408] ![0, 2176] q10 rfl rfl _ _ _) ![0, 640] rfl inb_S512x768_S512x64_0_640, ?_⟩
      refine List.forall_mem_cons.2 ⟨piece_att (bk0 m c t) t 9 _ (piece (bk0 m c t) t 9 _ ![0, 1344] ![0, 2112] q9 rfl rfl _ _ _) ![0, 576] rfl inb_S512x768_S512x64_0_576, ?_⟩
      refine List.forall_mem_cons.2 ⟨piece_att (bk0 m c t) t 8 _ (piece (bk0 m c t) t 8 _ ![0, 1280] ![0, 2048] q8 rfl rfl _ _ _) ![0, 512] rfl inb_S512x768_S512x64_0_512, ?_⟩
      refine List.forall_mem_cons.2 ⟨piece_att (bk0 m c t) t 7 _ (piece (bk0 m c t) t 7 _ ![0, 1216] ![0, 1984] q7 rfl rfl _ _ _) ![0, 448] rfl inb_S512x768_S512x64_0_448, ?_⟩
      refine List.forall_mem_cons.2 ⟨piece_att (bk0 m c t) t 6 _ (piece (bk0 m c t) t 6 _ ![0, 1152] ![0, 1920] q6 rfl rfl _ _ _) ![0, 384] rfl inb_S512x768_S512x64_0_384, ?_⟩
      refine List.forall_mem_cons.2 ⟨piece_att (bk0 m c t) t 5 _ (piece (bk0 m c t) t 5 _ ![0, 1088] ![0, 1856] q5 rfl rfl _ _ _) ![0, 320] rfl inb_S512x768_S512x64_0_320, ?_⟩
      refine List.forall_mem_cons.2 ⟨piece_att (bk0 m c t) t 4 _ (piece (bk0 m c t) t 4 _ ![0, 1024] ![0, 1792] q4 rfl rfl _ _ _) ![0, 256] rfl inb_S512x768_S512x64_0_256, ?_⟩
      refine List.forall_mem_cons.2 ⟨piece_att (bk0 m c t) t 3 _ (piece (bk0 m c t) t 3 _ ![0, 960] ![0, 1728] q3 rfl rfl _ _ _) ![0, 192] rfl inb_S512x768_S512x64_0_192, ?_⟩
      refine List.forall_mem_cons.2 ⟨piece_att (bk0 m c t) t 2 _ (piece (bk0 m c t) t 2 _ ![0, 896] ![0, 1664] q2 rfl rfl _ _ _) ![0, 128] rfl inb_S512x768_S512x64_0_128, ?_⟩
      refine List.forall_mem_cons.2 ⟨piece_att (bk0 m c t) t 1 _ (piece (bk0 m c t) t 1 _ ![0, 832] ![0, 1600] q1 rfl rfl _ _ _) ![0, 64] rfl inb_S512x768_S512x64_0_64, ?_⟩
      refine List.forall_mem_cons.2 ⟨piece_att (bk0 m c t) t 0 _ (piece (bk0 m c t) t 0 _ ![0, 768] ![0, 1536] q0 rfl rfl _ _ _) ![0, 0] rfl inb_S512x768_S512x64_0_0, ?_⟩
      exact fun _ h => absurd h List.not_mem_nil
    · exact View.cover_of_tiled _ ![512, 64] rfl _

/-! ## The first result -/

/-- The residual sum's payload, element by element. -/
theorem pay22_at (A : Vec Ideal S512x768 .f32) (wo : Vec Ideal S768x768 .f32) (bo : Vec Ideal S1x768 .f32) (x : Vec Ideal S512x768 .f32) (r : Fin 512) (j : Fin 768) :
    k0_pay22 A wo bo x (ix2 r j) = x (ix2 r j) + (∑ i : Fin 768, A (ix2 r i) * wo (ix2 j i) + bo (ix2 0 j)) := by
  pointwise [k0_pay22]

/-- The normalization's payload, element by element. -/
theorem pay27_at (A : Vec Ideal S512x768 .f32) (wo : Vec Ideal S768x768 .f32) (bo g b : Vec Ideal S1x768 .f32) (x : Vec Ideal S512x768 .f32) (r : Fin 512) (j : Fin 768) :
    k0_pay27 (k0_pay22 A wo bo x) (k0_pay23 g) (k0_pay24 b) (k0_pay25 A wo bo x) k0_pay26 (ix2 r j)
      = ln (fun i => k0_pay22 A wo bo x (ix2 r i)) (k0_pay22 A wo bo x (ix2 r j)) (g (ix2 0 j)) (b (ix2 0 j)) := by
  unfold k0_pay25
  generalize k0_pay22 A wo bo x = X
  pointwise [k0_pay27, k0_pay23, k0_pay24, k0_pay26]
  rfl

/-- Over the heads side by side, the normalized rows are the reference's. -/
theorem norm_at (A : Vec Ideal S512x768 .f32) (c : Dev nD) (t : Fin cfg0.N)
    (hA : ∀ (r : Fin 512) (i : Fin 768), A (ix2 r i) = att (bk0 m c t) (row t r) i) (r : Fin 512) (j : Fin 768) :
    norm m A c t (ix2 r j)
      = Cert.MegaRefIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t r) j) := by
  rw [Cert.MegaRefIdeal.Hand.v52_at]
  refine (pay27_at A (bk1 m c t) (bk2 m c t) (bk4 m c t) (bk5 m c t) (bk3 m c t) r j).trans ?_
  simp only [pay22_at, hA, bk0_eq, bk1_eq, bk2_at, bk3_at, bk4_at, bk5_at]
  rfl

/-- The call's first output array is the reference's. -/
theorem arr8 (c : Dev nD) : (dats m 0 c).arrAt 8 cfg0.N
    = Cert.MegaRefIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 8 _ (by decide +kernel) fun t hf y => ?_
  blk_simp
  rw [after0_8]
  obtain ⟨A, hA, hh⟩ := acc m c t
  rw [hA]
  obtain ⟨r, q, rfl⟩ := (fun y => ⟨y 0, y 1, eq_ix2 y⟩ : ∀ y : S512x768.Idx, ∃ (r : Fin 512) (q : Fin 768), y = ix2 r q) y
  rw [emb8 t r q]
  exact norm_at m A c t hh r q

end Cert.MegaIdeal.Hand

end
-- ==== Proof.TopTwo.lean ====
/- The two greatest of a row: as the stable sort picks them, as a maximum and the lowest lane that holds it pick them, and
   the counts of the tokens that chose an expert. -/
module

public import proofs.«01_k».proof.Proof.Scalar
public import Idealize.ShloMosaic.Lib.SortFacts
public import Idealize.ShloMosaic.Lib.SortPrefix

@[expose] public section

noncomputable section

namespace Cert.TopTwo

open Idealize.ShloMosaic

/-! ## By sorting -/

/-- Greater first. -/
def gt {n : ℕ} (L : Fin n → EReal) (k k' : Fin n) : Bool := FloatOps.cmpfTotal (F := Ideal) (φ := .f32) .gt (L k) (L k') == 1#1

/-- Greater first, and of equal ones the earlier. -/
def ahead {n : ℕ} (L : Fin n → EReal) (k k' : Fin n) : Bool := decide (L k' < L k ∨ (L k = L k' ∧ k < k'))

/-- Greater first, in the order of the extended reals. -/
theorem gt_iff {n : ℕ} (L : Fin n → EReal) (k k' : Fin n) : gt L k k' = decide (L k' < L k) := by
  show (BitVec.ofBool (decide (L k' < L k)) == 1#1) = _
  by_cases h : L k' < L k <;> simp [h]

/-- Two relations that agree on a later element against an earlier one sort alike. -/
theorem stable_same {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort by the values is the sort by the values and then the places. -/
theorem sorted_same {n : ℕ} (L : Fin n → EReal) : sortedFrom (gt L) = sortedFrom (ahead L) := by
  have h : sortPositions n (gt L) = sortPositions n (ahead L) :=
    stable_same _ _ _ ((List.pairwise_lt_finRange n).imp fun {a b} hab => by
      rw [gt_iff, ahead]
      simp only [decide_eq_decide]
      exact ⟨Or.inl, fun h => h.resolve_right fun q => absurd q.2 (not_lt.2 hab.le)⟩)
  funext k
  unfold sortedFrom
  rw [List.get_of_eq h]
  rfl

/-- What a later place of the sort holds isn't ahead of what an earlier one holds. -/
theorem sorted_order {n : ℕ} (L : Fin n → EReal) (i j : Fin n) (hij : i < j) :
    ahead L (sortedFrom (gt L) j) (sortedFrom (gt L) i) = false := by
  rw [sorted_same]
  refine sortedFrom_noInversion (ahead L) (ahead L) (fun a b h => ?_) (fun _ _ h => h) (fun a b c h₁ h₂ => ?_) i j hij
  · simp only [ahead, decide_eq_true_eq, decide_eq_false_iff_not, not_or, not_and] at h ⊢
    rcases h with h | ⟨h, hl⟩
    · exact ⟨not_lt.2 h.le, fun e => absurd (e ▸ h) (lt_irrefl _)⟩
    · exact ⟨by rw [h]; exact lt_irrefl _, fun _ => not_lt.2 hl.le⟩
  · simp only [ahead, decide_eq_false_iff_not, not_or, not_and, not_lt] at h₁ h₂ ⊢
    refine ⟨h₁.1.trans h₂.1, fun e => ?_⟩
    have e₁ : L a = L b := le_antisymm h₁.1 (h₂.1.trans (le_of_eq e.symm))
    exact (h₂.2 (e₁.symm.trans e)).trans (h₁.2 e₁)

/-- The place of a row's greatest. -/
def one (L : Fin 8 → EReal) : Fin 8 := sortedFrom (gt L) 0

/-- The place of a row's second greatest. -/
def two (L : Fin 8 → EReal) : Fin 8 := sortedFrom (gt L) 1

/-- They are two places. -/
theorem two_ne_one (L : Fin 8 → EReal) : two L ≠ one L := fun h => absurd (sortedFrom_injective _ h) (by decide)

/-- What isn't ahead of another is less or equal, and not earlier when equal. -/
theorem not_ahead {n : ℕ} (L : Fin n → EReal) (i j : Fin n) (h : ahead L i j = false) : L i ≤ L j ∧ (L i = L j → j ≤ i) := by
  simp only [ahead, decide_eq_false_iff_not, not_or, not_and, not_lt] at h
  exact h

/-- The greatest is no less than any, and the lowest place that holds it. -/
theorem one_spec (L : Fin 8 → EReal) (j : Fin 8) : L j ≤ L (one L) ∧ (L j = L (one L) → one L ≤ j) := by
  obtain ⟨k, rfl⟩ := sortedFrom_surjective (gt L) j
  by_cases h : k = 0
  · subst h; exact ⟨le_rfl, fun _ => le_rfl⟩
  · exact not_ahead L _ _ (sorted_order L 0 k (Fin.pos_of_ne_zero h))

/-- The second greatest likewise, of the places besides the greatest's. -/
theorem two_spec (L : Fin 8 → EReal) (j : Fin 8) (hj : j ≠ one L) : L j ≤ L (two L) ∧ (L j = L (two L) → two L ≤ j) := by
  obtain ⟨k, rfl⟩ := sortedFrom_surjective (gt L) j
  have h0 : k ≠ 0 := fun h => hj (by rw [h]; rfl)
  by_cases h : k = 1
  · subst h; exact ⟨le_rfl, fun _ => le_rfl⟩
  · refine not_ahead L _ _ (sorted_order L 1 k ?_)
    have h1 : k.val ≠ 0 := fun e => h0 (Fin.ext e)
    have h2 : k.val ≠ 1 := fun e => h (Fin.ext e)
    show (1 : ℕ) < k.val
    omega

/-! ## By a maximum and the lowest lane that holds it -/

/-- A maximum that is attained. -/
theorem fold_max {n : ℕ} (b : EReal) (K : Fin n → EReal) (a : Fin n) (hb : b ≤ K a) (h : ∀ i, K i ≤ K a) :
    Finset.univ.fold max b K = K a :=
  le_antisymm (Finset.fold_max_le _ |>.2 ⟨hb, fun i _ => h i⟩) (Finset.le_fold_max _ |>.2 (Or.inr ⟨a, Finset.mem_univ _, le_rfl⟩))

/-- A signed minimum is one of its words and no more than any of them. -/
theorem fold_minsi {ι : Type} [DecidableEq ι] (s : Finset ι) (b : BitVec 32) (f : ι → BitVec 32) :
    ((s.fold IntOp.minsi b f).toInt ≤ b.toInt ∧ ∀ i ∈ s, (s.fold IntOp.minsi b f).toInt ≤ (f i).toInt)
      ∧ (s.fold IntOp.minsi b f = b ∨ ∃ i ∈ s, s.fold IntOp.minsi b f = f i) := by
  induction s using Finset.induction_on with
  | empty => exact ⟨⟨le_rfl, fun i h => absurd h (Finset.notMem_empty i)⟩, Or.inl rfl⟩
  | insert a s ha ih =>
    rw [Finset.fold_insert ha]
    obtain ⟨⟨hb, hf⟩, hv⟩ := ih
    generalize s.fold IntOp.minsi b f = z at hb hf hv
    have hm : (IntOp.minsi (f a) z = f a ∧ (f a).toInt ≤ z.toInt) ∨ (IntOp.minsi (f a) z = z ∧ z.toInt ≤ (f a).toInt) := by
      unfold IntOp.minsi
      rw [BitVec.slt_eq_decide]
      by_cases h : (f a).toInt < z.toInt
      · left; simp [h, h.le]
      · right; simp [h, not_lt.1 h]
    rcases hm with ⟨e, hl⟩ | ⟨e, hl⟩
    · rw [e]
      exact ⟨⟨hl.trans hb, fun i hi => (Finset.mem_insert.1 hi).elim (fun q => q ▸ le_rfl) fun q => hl.trans (hf i q)⟩,
        Or.inr ⟨a, Finset.mem_insert_self a s, rfl⟩⟩
    · rw [e]
      exact ⟨⟨hb, fun i hi => (Finset.mem_insert.1 hi).elim (fun q => q ▸ hl) fun q => hf i q⟩,
        hv.imp id fun ⟨i, hi, q⟩ => ⟨i, Finset.mem_insert_of_mem hi, q⟩⟩

/-- A lane's word reads as its number. -/
theorem lane_toInt (i : ℕ) (h : i ≤ 128) : (BitVec.ofNat 32 i).toInt = i := by
  rw [BitVec.toInt_eq_toNat_cond, BitVec.toNat_ofNat, Nat.mod_eq_of_lt (by omega)]
  rw [if_pos (by omega)]

/-- The lowest lane that holds a value: where lane `a` holds it and no lower one does, the minimum of the lanes that hold it,
    128 standing for the others, is `a`. -/
theorem lowest (P : Fin 128 → Prop) [DecidablePred P] (a : Fin 128) (ha : P a) (h : ∀ i, P i → a ≤ i) :
    Finset.univ.fold IntOp.minsi 2147483647#32 (fun i : Fin 128 => if P i then BitVec.ofNat 32 i.val else 128#32) = BitVec.ofNat 32 a.val := by
  obtain ⟨⟨_, hf⟩, hv⟩ := fold_minsi Finset.univ 2147483647#32 (fun i : Fin 128 => if P i then BitVec.ofNat 32 i.val else 128#32)
  have ha' := hf a (Finset.mem_univ _)
  simp only [if_pos ha] at ha'
  generalize Finset.univ.fold IntOp.minsi 2147483647#32 (fun i : Fin 128 => if P i then BitVec.ofNat 32 i.val else 128#32) = z at ha' hv
  refine BitVec.eq_of_toInt_eq (le_antisymm ha' ?_)
  rw [lane_toInt _ a.isLt.le]
  have hal : (a.val : ℤ) < 128 := by exact_mod_cast a.isLt
  rcases hv with rfl | ⟨i, _, rfl⟩
  · exact hal.le.trans (by decide)
  · split
    · next hp => rw [lane_toInt _ i.isLt.le]; exact_mod_cast h i hp
    · exact hal.le.trans (by decide)

/-! ## The lanes -/

/-- Eight values, and one value `b` on the other lanes. -/
def padded (b : EReal) (L : Fin 8 → EReal) (i : Fin 128) : EReal := if h : i.val < 8 then L ⟨i.val, h⟩ else b

/-- The padded values with lane `a` overwritten by the padding's value. -/
def drop (b : EReal) (L : Fin 8 → EReal) (a : Fin 8) (i : Fin 128) : EReal := if i.val = a.val then b else padded b L i

/-- An expert's lane. -/
abbrev lane (a : Fin 8) : Fin 128 := ⟨a.val, by omega⟩

variable (b : EReal) (L : Fin 8 → EReal) (hb : ∀ i, b < L i)
include hb

/-- Over a padding below every value, the maximum is the greatest value. -/
theorem pad_max : Finset.univ.fold max ⊥ (padded b L) = L (one L) :=
  (fold_max ⊥ (padded b L) (lane (one L)) bot_le fun i => by
    have e : padded b L (lane (one L)) = L (one L) := dif_pos (one L).isLt
    rw [e]
    unfold padded
    split
    · exact (one_spec L _).1
    · exact (hb _).le).trans (dif_pos (one L).isLt)

/-- The lowest lane that holds the maximum is the greatest's. -/
theorem pad_low : Finset.univ.fold IntOp.minsi 2147483647#32 (fun i : Fin 128 => if padded b L i = L (one L) then BitVec.ofNat 32 i.val else 128#32)
    = BitVec.ofNat 32 (one L).val :=
  lowest (fun i => padded b L i = L (one L)) (lane (one L)) (dif_pos (one L).isLt) fun i h => by
    unfold padded at h
    split at h
    · exact (one_spec L _).2 h
    · exact absurd h (hb _).ne

/-- What the second greatest's lane holds after the greatest is overwritten. -/
theorem drop_two : drop b L (one L) (lane (two L)) = L (two L) :=
  (if_neg fun h => two_ne_one L (Fin.ext h)).trans (dif_pos (two L).isLt)

/-- The maximum without the greatest is the second greatest. -/
theorem drop_max : Finset.univ.fold max ⊥ (drop b L (one L)) = L (two L) :=
  (fold_max ⊥ (drop b L (one L)) (lane (two L)) bot_le fun i => by
    rw [drop_two b L hb]
    unfold drop padded
    split
    · exact (hb _).le
    · next hn =>
      split
      · next h8 => exact (two_spec L ⟨i.val, h8⟩ fun e => hn (congrArg Fin.val e)).1
      · exact (hb _).le).trans (drop_two b L hb)

/-- The lowest lane that holds it is the second greatest's. -/
theorem drop_low : Finset.univ.fold IntOp.minsi 2147483647#32 (fun i : Fin 128 => if drop b L (one L) i = L (two L) then BitVec.ofNat 32 i.val else 128#32)
    = BitVec.ofNat 32 (two L).val :=
  lowest (fun i => drop b L (one L) i = L (two L)) (lane (two L)) (drop_two b L hb) fun i h => by
    unfold drop padded at h
    split at h
    · exact absurd h (hb _).ne
    · next hn =>
      split at h
      · next h8 => exact (two_spec L ⟨i.val, h8⟩ fun e => hn (congrArg Fin.val e)).2 h
      · exact absurd h (hb _).ne

omit hb

/-! ## The routing row -/

/-- How often a row chooses expert `e`: once where it's the greatest's, once where it's the second's. -/
def hit (L : Fin 8 → EReal) (e : Fin 8) : ℕ := (if one L = e then 1 else 0) + (if two L = e then 1 else 0)

/-- The same of row `i` of many, nothing past the end. -/
def hits (G : Fin 2048 → Fin 8 → EReal) (e : Fin 8) (i : ℕ) : ℕ := if h : i < 2048 then hit (G ⟨i, h⟩) e else 0

/-- How many choices of expert `e` the first `n` rows make. -/
def tally (G : Fin 2048 → Fin 8 → EReal) (n : ℕ) (e : Fin 8) : ℕ := ∑ i ∈ Finset.range n, hits G e i

/-- A row chooses an expert at most twice. -/
theorem hits_le (G : Fin 2048 → Fin 8 → EReal) (e : Fin 8) (i : ℕ) : hits G e i ≤ 2 := by
  unfold hits hit
  split_ifs <;> omega

/-- So `n` rows choose it at most `2 n` times. -/
theorem tally_le (G : Fin 2048 → Fin 8 → EReal) (n : ℕ) (e : Fin 8) : tally G n e ≤ 2 * n :=
  (Finset.sum_le_card_nsmul _ _ 2 fun i _ => hits_le G e i).trans (by rw [Finset.card_range, smul_eq_mul, mul_comm])

/-- The exponential of the second greatest less the greatest. -/
def odds (L : Fin 8 → EReal) : EReal := Ideal.exp (L (two L) - L (one L))

/-- Lane `l` of row `r`'s routing: the two experts, their weights, and the places among the tokens that chose the same. -/
def routing (G : Fin 2048 → Fin 8 → EReal) (r : Fin 2048) (l : ℕ) : EReal :=
  if l = 0 then (((one (G r)).val : ℝ) : EReal)
  else if l = 1 then (((two (G r)).val : ℝ) : EReal)
  else if l = 2 then Ideal.div 1 (1 + odds (G r))
  else if l = 3 then odds (G r) * Ideal.div 1 (1 + odds (G r))
  else if l = 4 then ((tally G r.val (one (G r)) : ℝ) : EReal)
  else if l = 5 then ((tally G r.val (two (G r)) : ℝ) : EReal)
  else 0

/-- The two weights spelled as a softmax of the two values less the greater: over finite values, the same. -/
theorem weights (a c : ℝ) (h : c ≤ a) :
    Ideal.div (Ideal.exp ((a : EReal) - max (a : EReal) c)) (Ideal.exp ((a : EReal) - max (a : EReal) c) + Ideal.exp ((c : EReal) - max (a : EReal) c))
        = Ideal.div 1 (1 + Ideal.exp ((c : EReal) - a))
      ∧ Ideal.div (Ideal.exp ((c : EReal) - max (a : EReal) c)) (Ideal.exp ((a : EReal) - max (a : EReal) c) + Ideal.exp ((c : EReal) - max (a : EReal) c))
        = Ideal.exp ((c : EReal) - a) * Ideal.div 1 (1 + Ideal.exp ((c : EReal) - a)) := by
  have hm : max (a : EReal) c = a := max_eq_left (by exact_mod_cast h)
  have h0 : Ideal.exp ((a : EReal) - a) = 1 := by
    rw [← EReal.coe_sub, sub_self, Ideal.exp_coe, Real.exp_zero]
    rfl
  have hc : Ideal.exp ((c : EReal) - a) = ((Real.exp (c - a) : ℝ) : EReal) := by rw [← EReal.coe_sub, Ideal.exp_coe]
  have hs : (1 : EReal) + ((Real.exp (c - a) : ℝ) : EReal) = ((1 + Real.exp (c - a) : ℝ) : EReal) := by rw [EReal.coe_add]; rfl
  have hp : (1 + Real.exp (c - a) : ℝ) ≠ 0 := by positivity
  rw [hm, h0, hc, hs, Ideal.div_coe hp, Ideal.div_coe hp, one_mul]
  exact ⟨rfl, rfl⟩

end Cert.TopTwo

end
-- ==== Proof.MegaRoute.lean ====
/- The attention call's reference, its second result: each token's routing row. -/
module

public import proofs.«01_k».proof.Proof.MegaRef
public import proofs.«01_k».proof.Proof.TopTwo
public import Idealize.ShloMosaic.Lib.Routing.OpsOne

@[expose] public section

set_option maxRecDepth 16384

noncomputable section

namespace Cert.MegaRefIdeal.Hand

open Cert.MegaRefIdeal Cert.MegaRefIdeal.Read Cert.Scalar Cert.TopTwo
open Idealize.ShloMosaic Idealize.ShloMosaic.TcCoe Idealize.ShloMosaic.Tactic

/-! ## The two greatest of a row -/

/-- An index with its last coordinate replaced. -/
theorem along_at (r : Fin 2048) (a k : Fin 8) : (ix2 r a : S2048x8.Idx).along 1 k = ix2 r k :=
  funext fun (x : Fin 2) => match x with
    | 0 => rfl
    | 1 => rfl

/-- Place `a` of the sorted row: the value there and the place it came from. -/
theorem sort_at (y : FVec Ideal S2048x8 .f32) (r : Fin 2048) (a : Fin 8) (J : S2048x8.Idx) (hJ : J = ix2 r a) (idx : IVec S2048x8 32)
    (hidx : ∀ k : Fin 8, idx (ix2 r k) = BitVec.ofNat 32 k.val) :
    (Host.sort2 S2048x8 1 (fun l r : Ideal .f32 × BitVec 32 => FloatOps.cmpfTotal (F := Ideal) (φ := .f32) .gt l.1 r.1) y idx).1 J
        = y (ix2 r (sortedFrom (gt fun e => y (ix2 r e)) a))
      ∧ (Host.sort2 S2048x8 1 (fun l r : Ideal .f32 × BitVec 32 => FloatOps.cmpfTotal (F := Ideal) (φ := .f32) .gt l.1 r.1) y idx).2 J
        = BitVec.ofNat 32 (sortedFrom (gt fun e => y (ix2 r e)) a).val := by
  subst hJ
  have hs : (fun k k' => FloatOps.cmpfTotal (F := Ideal) (φ := .f32) .gt (y ((ix2 r a : S2048x8.Idx).along 1 k)) (y ((ix2 r a : S2048x8.Idx).along 1 k')) == 1#1)
      = gt fun e : Fin 8 => y (ix2 r e) := funext fun (k : Fin 8) => funext fun (k' : Fin 8) => by rw [along_at, along_at]; rfl
  refine ⟨?_, ?_⟩
  · exact (congrArg y (along_at r a _)).trans (congrArg (fun f : Fin 8 → Fin 8 → Bool => y (ix2 r (sortedFrom f a))) hs)
  · exact (congrArg idx (along_at r a _)).trans ((hidx _).trans (congrArg (fun f : Fin 8 → Fin 8 → Bool => BitVec.ofNat 32 (sortedFrom f a).val) hs))

variable (x0 : FVec Ideal S2048x2304 .f32) (x1 : FVec Ideal S768x768 .f32) (x2 : FVec Ideal S768 .f32) (x3 : FVec Ideal S2048x768 .f32)
  (x4 x5 : FVec Ideal S768 .f32) (x6 : FVec Ideal S768x8 .f32) (x7 : FVec Ideal S8 .f32)

/-- The router's logits, row by row. -/
def logits (r : Fin 2048) (e : Fin 8) : EReal := val_main_v56 (F := Ideal) x0 x1 x2 x3 x4 x5 x6 x7 (ix2 r e)

/-- A logit: the token's row against the expert's column, shifted. -/
theorem logits_at (r : Fin 2048) (e : Fin 8) : logits x0 x1 x2 x3 x4 x5 x6 x7 r e
    = ∑ i : Fin 768, val_main_v52 (F := Ideal) x0 x1 x2 x3 x4 x5 (ix2 r i) * x6 (ix2 i e) + x7 (ix1 e) := by
  unfold logits val_main_v56 val_main_v53
  generalize val_main_v52 (F := Ideal) x0 x1 x2 x3 x4 x5 = y
  pointwise [val_main_v55, val_main_v54]

/-- The place that column `k` of the two greatest holds. -/
def pick (L : Fin 8 → EReal) (k : Fin 2) : Fin 8 := if k = 0 then one L else two L

/-- The two greatest values and their places. -/
theorem top_at (r : Fin 2048) (k : Fin 2) :
    val_main_values (F := Ideal) x0 x1 x2 x3 x4 x5 x6 x7 (ix2 r k) = logits x0 x1 x2 x3 x4 x5 x6 x7 r (pick (logits x0 x1 x2 x3 x4 x5 x6 x7 r) k)
    ∧ val_main_indices (F := Ideal) x0 x1 x2 x3 x4 x5 x6 x7 (ix2 r k) = BitVec.ofNat 32 (pick (logits x0 x1 x2 x3 x4 x5 x6 x7 r) k).val := by
  unfold val_main_values val_main_indices logits
  generalize val_main_v56 (F := Ideal) x0 x1 x2 x3 x4 x5 x6 x7 = y
  have hp : sortedFrom (gt fun e : Fin 8 => y (ix2 r e)) ⟨k.val, by omega⟩ = pick (fun e => y (ix2 r e)) k := by
    match k with
    | 0 => rfl
    | 1 => rfl
  rw [← hp]
  exact sort_at y r ⟨k.val, by omega⟩ _ (funext fun (x : Fin 2) => Fin.ext <| match x with
    | 0 => Nat.zero_add _
    | 1 => Nat.zero_add _) (fun i => if hd : 1 < S2048x8.rank then iotaInDim S2048x8 32 ⟨1, hd⟩ i else 0#32) fun _ => rfl

/-- The two weights. -/
theorem v67_at (r : Fin 2048) (k : Fin 2) : val_main_v67 (F := Ideal) x0 x1 x2 x3 x4 x5 x6 x7 (ix2 r k)
    = Ideal.div (Ideal.exp (val_main_values (F := Ideal) x0 x1 x2 x3 x4 x5 x6 x7 (ix2 r k) - max (val_main_values (F := Ideal) x0 x1 x2 x3 x4 x5 x6 x7 (ix2 r 0)) (val_main_values (F := Ideal) x0 x1 x2 x3 x4 x5 x6 x7 (ix2 r 1))))
      (Ideal.exp (val_main_values (F := Ideal) x0 x1 x2 x3 x4 x5 x6 x7 (ix2 r 0) - max (val_main_values (F := Ideal) x0 x1 x2 x3 x4 x5 x6 x7 (ix2 r 0)) (val_main_values (F := Ideal) x0 x1 x2 x3 x4 x5 x6 x7 (ix2 r 1)))
        + Ideal.exp (val_main_values (F := Ideal) x0 x1 x2 x3 x4 x5 x6 x7 (ix2 r 1) - max (val_main_values (F := Ideal) x0 x1 x2 x3 x4 x5 x6 x7 (ix2 r 0)) (val_main_values (F := Ideal) x0 x1 x2 x3 x4 x5 x6 x7 (ix2 r 1)))) := by
  unfold val_main_v67 val_main_v66 val_main_v65 val_main_v64 val_main_v63 val_main_v62 val_main_v61 val_main_v60 val_main_v59 val_main_v58 val_main_v57
  generalize val_main_values (F := Ideal) x0 x1 x2 x3 x4 x5 x6 x7 = y
  have hm : max (Ideal.ofBits .f32 0xFF800000#32) (Finset.univ.fold max (Ideal.ofBits .f32 0xFF800000#32) fun x : Fin 2 => y (ix2 r x)) = max (y (ix2 r 0)) (y (ix2 r 1)) := by
    rw [bits_bot, max_eq_right bot_le, show (Finset.univ : Finset (Fin 2)) = {0, 1} from rfl, Finset.fold_insert (by decide), Finset.fold_singleton, max_eq_left (bot_le : ⊥ ≤ y (ix2 r 1))]
  pointwise [val_main_cst_6, val_main_cst_7, val_main_cst_8]
  rw [hm, Fin.sum_univ_two]

/-- Whether column `k` of a token's choices is expert `e`. -/
theorem v74_at (r : Fin 2048) (k : Fin 2) (e : Fin 8) : val_main_v74 (F := Ideal) x0 x1 x2 x3 x4 x5 x6 x7 (ix3 r k e)
    = if pick (logits x0 x1 x2 x3 x4 x5 x6 x7 r) k = e then 1#32 else 0#32 := by
  have hi := (top_at x0 x1 x2 x3 x4 x5 x6 x7 r k).2
  unfold val_main_v74 val_main_v73 val_main_v71 val_main_v68
  generalize val_main_indices (F := Ideal) x0 x1 x2 x3 x4 x5 x6 x7 = y at hi
  pointwise [val_main_v72, val_main_v70, val_main_v69]
  rw [hi]
  generalize pick (logits x0 x1 x2 x3 x4 x5 x6 x7 r) k = p
  revert p e
  decide

/-- A sum of words as the reduction folds it. -/
theorem fold_addi {n : ℕ} (f : Fin n → BitVec 32) : Finset.univ.fold IntOp.addi 0#32 f = ∑ i, f i := rfl

/-- How often a token chooses an expert. -/
theorem v75_at (r : Fin 2048) (e : Fin 8) : val_main_v75 (F := Ideal) x0 x1 x2 x3 x4 x5 x6 x7 (ix2 r e)
    = BitVec.ofNat 32 (hits (logits x0 x1 x2 x3 x4 x5 x6 x7) e r.val) := by
  have h0 := v74_at x0 x1 x2 x3 x4 x5 x6 x7 r 0 e
  have h1 := v74_at x0 x1 x2 x3 x4 x5 x6 x7 r 1 e
  unfold val_main_v75
  generalize val_main_v74 (F := Ideal) x0 x1 x2 x3 x4 x5 x6 x7 = y at h0 h1
  pointwise [val_main_c_9]
  rw [fold_addi, Fin.sum_univ_two, h0, h1]
  unfold hits hit pick
  rw [dif_pos r.isLt]
  simp only [if_true, if_neg (show ¬ (1 : Fin 2) = 0 by decide)]
  split <;> split <;> rfl

/-- The choices of an expert by the tokens before. -/
theorem v77_at (r : Fin 2048) (e : Fin 8) : val_main_v77 (F := Ideal) x0 x1 x2 x3 x4 x5 x6 x7 (ix2 r e)
    = BitVec.ofNat 32 (tally (logits x0 x1 x2 x3 x4 x5 x6 x7) r.val e) := by
  have h := v75_at x0 x1 x2 x3 x4 x5 x6 x7
  rw [val_main_v77_apply]
  unfold val_main_v76
  generalize val_main_v75 (F := Ideal) x0 x1 x2 x3 x4 x5 x6 x7 = y at h
  have hl : ∀ n (f : ℕ → ℕ), ((List.range n).map f).sum = ∑ i ∈ Finset.range n, f i := fun n f => by
    induction n with
    | zero => rfl
    | succ n ih => rw [List.range_succ, List.map_append, List.sum_append, ih, Finset.sum_range_succ]; simp
  have hc := Routing.cumsum_rows (R := 2048) (Rm1 := 2047) (C := 8) rfl y
    (fun i c => if hc : c < 8 then hits (logits x0 x1 x2 x3 x4 x5 x6 x7) ⟨c, hc⟩ i else 0)
    (fun i c => by rw [dif_pos c.isLt]; exact h i c) (val_main_call1_call0_v0 (F := Ideal)) rfl
    Gen.reduceWindows_S2048x8_S2048x8_w2048s1p2047_0_w1s1p0_0 Gen.h_S_ r e
  rw [hl] at hc
  simp only [dif_pos e.isLt] at hc
  rw [Finset.sum_range_succ] at hc
  refine (congrArg₂ (fun a b : BitVec 32 => a - b) hc (h r e)).trans ?_
  rw [BitVec.ofNat_add, BitVec.add_sub_cancel]
  rfl

/-- A token's place among those that chose the same expert. -/
theorem v81_at (r : Fin 2048) (k : Fin 2) : val_main_v81 (F := Ideal) x0 x1 x2 x3 x4 x5 x6 x7 (ix2 r k)
    = BitVec.ofNat 32 (tally (logits x0 x1 x2 x3 x4 x5 x6 x7) r.val (pick (logits x0 x1 x2 x3 x4 x5 x6 x7 r) k)) := by
  have h := v74_at x0 x1 x2 x3 x4 x5 x6 x7 r k
  have h' := v77_at x0 x1 x2 x3 x4 x5 x6 x7 r
  unfold val_main_v81 val_main_v80 val_main_v79 val_main_v78
  generalize val_main_v74 (F := Ideal) x0 x1 x2 x3 x4 x5 x6 x7 = y at h
  generalize val_main_v77 (F := Ideal) x0 x1 x2 x3 x4 x5 x6 x7 = z at h'
  pointwise [val_main_c_10]
  rw [fold_addi]
  refine (Finset.sum_congr rfl fun e _ => (show IntOp.muli (z (ix2 r e)) (y (ix3 r k e)) = if pick (logits x0 x1 x2 x3 x4 x5 x6 x7 r) k = e then z (ix2 r e) else 0 by
    show z (ix2 r e) * y (ix3 r k e) = _
    rw [h e]
    split
    · exact BitVec.mul_one _
    · exact BitVec.mul_zero)).trans ?_
  rw [Finset.sum_ite_eq, if_pos (Finset.mem_univ _), h']

/-- A small number's word as a float is the number. -/
theorem sitofp_small (n : ℕ) (h : n < 2 ^ 31) : (FloatOps.sitofp .f32 (BitVec.ofNat 32 n) : Ideal .f32) = ((n : ℝ) : EReal) := by
  show (((BitVec.ofNat 32 n).toInt : ℝ) : EReal) = _
  rw [BitVec.toInt_eq_toNat_cond, BitVec.toNat_ofNat, Nat.mod_eq_of_lt (by omega), if_pos (by omega)]
  norm_num

/-- The second result, where a row's logits are finite: the token's routing row. -/
theorem v85_at (r : Fin 2048) (l : Fin 128) (hf : ∀ e, ∃ x : ℝ, logits x0 x1 x2 x3 x4 x5 x6 x7 r e = (x : EReal)) :
    val_main_v85 (F := Ideal) x0 x1 x2 x3 x4 x5 x6 x7 (ix2 r l) = routing (logits x0 x1 x2 x3 x4 x5 x6 x7) r l.val := by
  have hi := fun k => (top_at x0 x1 x2 x3 x4 x5 x6 x7 r k).2
  have hw := v67_at x0 x1 x2 x3 x4 x5 x6 x7 r
  have hp := v81_at x0 x1 x2 x3 x4 x5 x6 x7 r
  simp only [fun k => (top_at x0 x1 x2 x3 x4 x5 x6 x7 r k).1] at hw
  unfold val_main_v85 val_main_v83 val_main_v82
  generalize val_main_v67 (F := Ideal) x0 x1 x2 x3 x4 x5 x6 x7 = y at hw
  generalize val_main_v81 (F := Ideal) x0 x1 x2 x3 x4 x5 x6 x7 = z at hp
  generalize val_main_indices (F := Ideal) x0 x1 x2 x3 x4 x5 x6 x7 = w at hi
  pointwise [val_main_v84, val_main_cst_11]
  simp only [hi, hp, hw]
  have hle : logits x0 x1 x2 x3 x4 x5 x6 x7 r (two (logits x0 x1 x2 x3 x4 x5 x6 x7 r)) ≤ logits x0 x1 x2 x3 x4 x5 x6 x7 r (one (logits x0 x1 x2 x3 x4 x5 x6 x7 r)) :=
    (one_spec _ _).1
  unfold routing odds
  generalize logits x0 x1 x2 x3 x4 x5 x6 x7 = G at hf hle
  have hcount : ∀ e, tally G r.val e < 2 ^ 31 := fun e => (tally_le G r.val e).trans_lt (by omega)
  have hplace : ∀ e : Fin 8, e.val < 2 ^ 31 := fun e => by omega
  have p0 : ∀ h, pick (G r) ⟨0, h⟩ = one (G r) := fun _ => rfl
  have p1 : ∀ h, pick (G r) ⟨1, h⟩ = two (G r) := fun _ => rfl
  have q0 : pick (G r) 0 = one (G r) := rfl
  have q1 : pick (G r) 1 = two (G r) := rfl
  obtain ⟨a, ha⟩ := hf (one (G r))
  obtain ⟨c, hc⟩ := hf (two (G r))
  have hW := weights a c (by rw [ha, hc] at hle; exact_mod_cast hle)
  match l with
  | ⟨0, _⟩ => simp only [p0]; exact sitofp_small _ (hplace _)
  | ⟨1, _⟩ => simp only [p1]; exact sitofp_small _ (hplace _)
  | ⟨2, _⟩ => simp only [p0, p1, q0, q1, ha, hc]; exact hW.1
  | ⟨3, _⟩ => simp only [p0, p1, q0, q1, ha, hc]; exact hW.2
  | ⟨4, _⟩ => simp only [p0]; exact sitofp_small _ (hcount _)
  | ⟨5, _⟩ => simp only [p1]; exact sitofp_small _ (hcount _)
  | ⟨n + 6, hn⟩ =>
    rw [dif_neg (by simp), dif_neg (by simp), dif_neg (by simp)]
    simp

end Cert.MegaRefIdeal.Hand

end
-- ==== Proof.MegaMeta.lean ====
/- The attention call's second output: each token's two experts, their weights and its places, against the reference's. -/
module

public import proofs.«01_k».proof.Proof.MegaValue
public import proofs.«01_k».proof.Proof.MegaRoute

@[expose] public section

set_option maxRecDepth 16384

noncomputable section

namespace Cert.MegaIdeal.Hand

open Cert.MegaIdeal Cert.MegaIdeal.Gen Cert.Scalar Cert.TopTwo
open Cert.MegaRefIdeal.Hand (att top bits_bot logits logits_at sitofp_small)
open Idealize.ShloMosaic Idealize.ShloMosaic.TcCoe Idealize.ShloMosaic.Tactic
open Idealize.SL Idealize.SL.RA Idealize.SL.Sem

variable (m : (ℓ : Loc nD τ sig) → Buf (Elt Ideal) ℓ)

/-! ## Words -/

/-- The padding of the lanes past the experts. -/
abbrev low : EReal := Ideal.ofBits .f32 0xF149F2CA#32

/-- The word of one. -/
theorem bits_one : Ideal.ofBits .f32 0x3F800000#32 = ((1 : ℝ) : EReal) := by
  simp [Ideal.ofBits, Ideal.ieee, -EReal.coe_mul]; norm_num

/-- A select on an equality of words. -/
theorem sel {α : Type} (a b : BitVec 32) (x y : α) : Scalar.select (IntOp.cmpi .eq a b) x y = if a = b then x else y := by
  unfold Scalar.select IntOp.cmpi
  by_cases h : a = b
  · simp [h]
  · simp only [if_neg h, beq_false_of_ne h]
    rfl

/-- Small numbers' words are equal where the numbers are. -/
theorem word_eq (a b : ℕ) (ha : a < 2 ^ 32) (hb : b < 2 ^ 32) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt ha, Nat.mod_eq_of_lt hb] at this

/-- A bit as a float. -/
theorem bit_float (p : Bool) : (FloatOps.sitofp .f32 (BitVec.setWidth 32 (BitVec.ofBool p)) : Ideal .f32) = if p then (1 : EReal) else 0 := by
  cases p
  · exact (sitofp_small 0 (by norm_num)).trans (by simp)
  · exact (sitofp_small 1 (by norm_num)).trans (by simp)

/-- Sums of numbers as extended reals. -/
theorem sum_real {ι : Type} (s : Finset ι) (f : ι → ℕ) : ∑ i ∈ s, ((f i : ℝ) : EReal) = (((∑ i ∈ s, f i : ℕ) : ℝ) : EReal) := by
  classical
  induction s using Finset.induction_on with
  | empty => simp
  | insert a s ha ih => rw [Finset.sum_insert ha, Finset.sum_insert ha, ih, Nat.cast_add, EReal.coe_add]

/-! ## The payloads, element by element -/

section
variable (u : FVec Ideal S512x768 .f32) (g b : FVec Ideal S1x768 .f32) (p q : FVec Ideal S512x1 .f32) (w : Vec Ideal S768x128 .f32) (v : Vec Ideal S1x128 .f32)

/-- The logits' payload. -/
theorem pay29_at (r : Fin 512) (l : Fin 128) :
    k0_pay29 u g b p q w v (ix2 r l) = ∑ i : Fin 768, k0_pay27 u g b p q (ix2 r i) * w (ix2 i l) + v (ix2 0 l) := by
  unfold k0_pay29
  generalize k0_pay27 u g b p q = X
  pointwise

/-- The greatest logit's. -/
theorem pay30_at (r : Fin 512) : k0_pay30 u g b p q w v (ix2 r 0) = top fun l : Fin 128 => k0_pay29 u g b p q w v (ix2 r l) := by
  unfold k0_pay30 top
  generalize k0_pay29 u g b p q w v = X
  pointwise

/-- Its lane's. -/
theorem pay31_at (r : Fin 512) : k0_pay31 u g b p q w v (ix2 r 0) = Finset.univ.fold IntOp.minsi 2147483647#32 fun l : Fin 128 =>
    if k0_pay29 u g b p q w v (ix2 r l) = k0_pay30 u g b p q w v (ix2 r 0) then BitVec.ofNat 32 l.val else 128#32 := by
  unfold k0_pay31
  generalize k0_pay29 u g b p q w v = X
  generalize k0_pay30 u g b p q w v = Y
  pointwise

/-- The other logits'. -/
theorem pay32_at (r : Fin 512) (l : Fin 128) : k0_pay32 u g b p q w v (ix2 r l)
    = if BitVec.ofNat 32 l.val = k0_pay31 u g b p q w v (ix2 r 0) then low else k0_pay29 u g b p q w v (ix2 r l) := by
  unfold k0_pay32
  generalize k0_pay29 u g b p q w v = X
  generalize k0_pay31 u g b p q w v = Y
  pointwise
  exact sel _ _ _ _

end

/-- The second greatest logit's payload. -/
theorem pay33_at (R : FVec Ideal S512x128 .f32) (r : Fin 512) : k0_pay33 R (ix2 r 0) = top fun l : Fin 128 => R (ix2 r l) := by
  unfold top
  pointwise [k0_pay33]

/-- Its lane's. -/
theorem pay34_at (R : FVec Ideal S512x128 .f32) (r : Fin 512) :
    k0_pay34 (F := Ideal) lanes R (ix2 r 0) = Finset.univ.fold IntOp.minsi 2147483647#32 fun l : Fin 128 =>
      if R (ix2 r l) = k0_pay33 R (ix2 r 0) then BitVec.ofNat 32 l.val else 128#32 := by
  unfold k0_pay34
  generalize k0_pay33 R = Y
  pointwise [lanes]

/-- The exponential of the difference. -/
theorem pay35_at (g : FVec Ideal S512x1 .f32) (R : FVec Ideal S512x128 .f32) (r : Fin 512) :
    k0_pay35 g R (ix2 r 0) = Ideal.exp (k0_pay33 R (ix2 r 0) - g (ix2 r 0)) := by
  unfold k0_pay35
  generalize k0_pay33 R = Y
  pointwise

/-- The first weight's payload. -/
theorem pay36_at (g : FVec Ideal S512x1 .f32) (R : FVec Ideal S512x128 .f32) (r : Fin 512) :
    k0_pay36 g R (ix2 r 0) = Ideal.div 1 (1 + k0_pay35 g R (ix2 r 0)) := by
  unfold k0_pay36
  generalize k0_pay35 g R = Y
  pointwise

/-- The second weight's. -/
theorem pay37_at (g : FVec Ideal S512x1 .f32) (R : FVec Ideal S512x128 .f32) (r : Fin 512) :
    k0_pay37 g R (ix2 r 0) = k0_pay35 g R (ix2 r 0) * k0_pay36 g R (ix2 r 0) := by
  unfold k0_pay37
  generalize k0_pay35 g R = Y
  generalize k0_pay36 g R = Z
  pointwise

/-- The lane of the first expert, as a float. -/
theorem pay38_at (f : IVec S512x1 32) (r : Fin 512) (l : Fin 128) :
    k0_pay38 (F := Ideal) lanes f (ix2 r l) = if BitVec.ofNat 32 l.val = f (ix2 r 0) then 1 else 0 := by
  pointwise [k0_pay38, lanes]
  exact (bit_float _).trans (by simp only [beq_iff_eq])

/-- The lane of the second. -/
theorem pay39_at (R : FVec Ideal S512x128 .f32) (r : Fin 512) (l : Fin 128) :
    k0_pay39 (F := Ideal) lanes R (ix2 r l) = if BitVec.ofNat 32 l.val = k0_pay34 (F := Ideal) lanes R (ix2 r 0) then 1 else 0 := by
  unfold k0_pay39
  generalize k0_pay34 (F := Ideal) lanes R = Y
  pointwise [lanes]
  exact (bit_float _).trans (by simp only [beq_iff_eq])

/-- Both lanes. -/
theorem pay40_at (f : IVec S512x1 32) (R : FVec Ideal S512x128 .f32) (r : Fin 512) (l : Fin 128) :
    k0_pay40 (F := Ideal) lanes f R (ix2 r l) = k0_pay38 (F := Ideal) lanes f (ix2 r l) + k0_pay39 (F := Ideal) lanes R (ix2 r l) := by
  unfold k0_pay40
  generalize k0_pay38 (F := Ideal) lanes f = Y
  generalize k0_pay39 (F := Ideal) lanes R = Z
  pointwise

/-- The sums over the rows before, over the counts so far. -/
theorem pay41_at (f : IVec S512x1 32) (R : FVec Ideal S512x128 .f32) (z : FVec Ideal S1x128 .f32) (r : Fin 512) (l : Fin 128) :
    k0_pay41 (F := Ideal) lanes f R z (ix2 r l)
      = ∑ j : Fin 512, (if j.val < r.val then 1 else 0) * k0_pay40 (F := Ideal) lanes f R (ix2 j l) + z (ix2 0 l) := by
  unfold k0_pay41
  generalize k0_pay40 (F := Ideal) lanes f R = Y
  pointwise
  refine congrArg (· + z (ix2 0 l)) (Finset.sum_congr rfl fun j _ => congrArg (· * Y (ix2 j l)) ((bit_float _).trans ?_))
  have h : ∀ n : ℕ, n < 512 → (BitVec.ofNat 32 n).toInt = n := fun n hn => by
    rw [BitVec.toInt_eq_toNat_cond, BitVec.toNat_ofNat, Nat.mod_eq_of_lt (by omega), if_pos (by omega)]
  simp only [BitVec.slt_eq_decide, decide_eq_true_eq, h _ r.isLt, h _ j.isLt, Nat.cast_lt]

/-- The first place's payload. -/
theorem pay42_at (f : IVec S512x1 32) (R : FVec Ideal S512x128 .f32) (z : FVec Ideal S1x128 .f32) (r : Fin 512) :
    k0_pay42 (F := Ideal) lanes f R z (ix2 r 0)
      = ∑ l : Fin 128, k0_pay41 (F := Ideal) lanes f R z (ix2 r l) * k0_pay38 (F := Ideal) lanes f (ix2 r l) := by
  unfold k0_pay42
  generalize k0_pay41 (F := Ideal) lanes f R z = Y
  generalize k0_pay38 (F := Ideal) lanes f = Z
  pointwise

/-- The second place's. -/
theorem pay43_at (f : IVec S512x1 32) (R : FVec Ideal S512x128 .f32) (z : FVec Ideal S1x128 .f32) (r : Fin 512) :
    k0_pay43 (F := Ideal) lanes f R z (ix2 r 0)
      = ∑ l : Fin 128, k0_pay41 (F := Ideal) lanes f R z (ix2 r l) * k0_pay39 (F := Ideal) lanes R (ix2 r l) := by
  unfold k0_pay43
  generalize k0_pay41 (F := Ideal) lanes f R z = Y
  generalize k0_pay39 (F := Ideal) lanes R = Z
  pointwise

/-- The counts left for the next point. -/
theorem pay44_at (f : IVec S512x1 32) (R : FVec Ideal S512x128 .f32) (z : FVec Ideal S1x128 .f32) (l : Fin 128) :
    k0_pay44 (F := Ideal) lanes f R z (ix2 0 l) = z (ix2 0 l) + ∑ j : Fin 512, k0_pay40 (F := Ideal) lanes f R (ix2 j l) := by
  unfold k0_pay44
  generalize k0_pay40 (F := Ideal) lanes f R = Y
  pointwise

/-- The six lanes side by side. -/
theorem pay45_at (f s : IVec S512x1 32) (a b c d : FVec Ideal S512x1 .f32) (r : Fin 512) (l : Fin 128) :
    k0_pay45 (F := Ideal) lanes f s a b c d (ix2 r l)
      = if l.val = 0 then (FloatOps.sitofp .f32 (f (ix2 r 0)) : Ideal .f32)
        else if l.val = 1 then (FloatOps.sitofp .f32 (s (ix2 r 0)) : Ideal .f32)
        else if l.val = 2 then a (ix2 r 0)
        else if l.val = 3 then b (ix2 r 0)
        else if l.val = 4 then c (ix2 r 0)
        else if l.val = 5 then d (ix2 r 0)
        else (0 : EReal) := by
  pointwise [k0_pay45, lanes]
  have h : ∀ k : ℕ, k < 128 → (BitVec.ofNat 32 l.val = BitVec.ofNat 32 k ↔ l.val = k) := fun k hk => word_eq _ _ (by omega) (by omega)
  simp only [sel, h 0 (by omega), h 1 (by omega), h 2 (by omega), h 3 (by omega), h 4 (by omega), h 5 (by omega)]
  generalize l.val = n
  match n with
  | 0 | 1 | 2 | 3 | 4 | 5 => simp
  | n + 6 => simp

/-! ## The host's padding -/

/-- The host pads the router's columns with zeros. -/
theorem V1 (c : Dev nD) : V m c main_v1 = concatenate S768x128 1 [⟨S768x8, m ((c.tc : Thread nD τ).loc main_arg6)⟩,
    ⟨S768x120, broadcastInDim S768x120 ![] bcast_S_S768x120 (constant (F := Ideal) S_ .f32 0x00000000#32)⟩] concatenates_S768x8_S768x120_S768x128_d1 := by
  simp only [V, hostOps0, List.flatten_cons, List.flatten_nil, List.append_nil, List.cons_append, List.nil_append]
  after_results

/-- The router's columns, whole at every point: the experts', then zeros. -/
theorem bk6_at (c : Dev nD) (t : Fin cfg0.N) (i : Fin 768) (l : Fin 128) :
    bk6 m c t (ix2 i l) = if h : l.val < 8 then (m ((c.tc : Thread nD τ).loc main_arg6) : FVec Ideal S768x8 .f32) (ix2 i ⟨l.val, h⟩) else (0 : EReal) := by
  have e : ((cfg0.win 6).blk t).view.emb (ix2 i l) = (ix2 i l : S768x128.Idx) :=
    funext fun (a : Fin 2) => Fin.ext <| (Pipeline.Window.rect_emb_val (cfg0.win 6) t (ix2 i l) a).trans <|
      match a with
      | 0 => Nat.zero_add _
      | 1 => Nat.zero_add _
  unfold bk6
  blk_simp [iblk]
  refine (congrArg (V m c main_v1) e).trans ?_
  rw [V1]
  pointwise

/-- The host pads the router's shifts with the low value. -/
theorem V7 (c : Dev nD) : V m c main_v7 = shapeCast S1x128 (concatenate S128 0 [⟨S8, m ((c.tc : Thread nD τ).loc main_arg7)⟩,
    ⟨S120, broadcastInDim S120 ![] bcast_S_S120 (constant (F := Ideal) S_ .f32 0xF149F2CA#32)⟩] concatenates_S8_S120_S128_d0) shapeCasts_S128_S1x128 := by
  simp only [V, hostOps0, List.flatten_cons, List.flatten_nil, List.append_nil, List.cons_append, List.nil_append]
  after_results
  rfl

/-- The router's shifts, whole at every point: the experts', then the low value. -/
theorem bk7_at (c : Dev nD) (t : Fin cfg0.N) (l : Fin 128) :
    bk7 m c t (ix2 0 l) = if h : l.val < 8 then (m ((c.tc : Thread nD τ).loc main_arg7) : FVec Ideal S8 .f32) (ix1 ⟨l.val, h⟩) else low := by
  have e : ((cfg0.win 7).blk t).view.emb (ix2 0 l) = (ix2 0 l : S1x128.Idx) :=
    funext fun (a : Fin 2) => Fin.ext <| (Pipeline.Window.rect_emb_val (cfg0.win 7) t (ix2 0 l) a).trans <|
      match a with
      | 0 => rfl
      | 1 => Nat.zero_add _
  unfold bk7
  blk_simp [iblk]
  refine (congrArg (V m c main_v7) e).trans ?_
  rw [V7]
  pointwise

/-- The second output's block lies at the point's rows. -/
theorem emb9 (t : Fin cfg0.N) (r : Fin 512) (l : Fin 128) :
    ((cfg0.win 9).blk t).view.emb (ix2 r l) = (ix2 (row t r) l : S2048x128.Idx) :=
  funext fun (a : Fin 2) => Fin.ext <| (Pipeline.Window.rect_emb_val (cfg0.win 9) t (ix2 r l) a).trans <|
    match a with
    | 0 => congrArg (fun x => x * 512 + r.val) (w0 t)
    | 1 => Nat.zero_add _

/-! ## The two experts of each row -/

/-- The reference's logits at the call's arguments. -/
def G (c : Dev nD) : Fin 2048 → Fin 8 → EReal :=
  logits (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The kernel's logits. -/
def K (A : Vec Ideal S512x768 .f32) (c : Dev nD) (t : Fin cfg0.N) : FVec Ideal S512x128 .f32 :=
  k0_pay29 (k0_pay22 A (bk1 m c t) (bk2 m c t) (bk3 m c t)) (k0_pay23 (bk4 m c t)) (k0_pay24 (bk5 m c t))
    (k0_pay25 A (bk1 m c t) (bk2 m c t) (bk3 m c t)) k0_pay26 (bk6 m c t) (bk7 m c t)

section
variable (A : Vec Ideal S512x768 .f32) (c : Dev nD) (t : Fin cfg0.N)
  (hA : ∀ (r : Fin 512) (i : Fin 768), A (ix2 r i) = att (bk0 m c t) (row t r) i)
  (hb : ∀ R e, low < G m c R e)
include hA

/-- They are the reference's on the experts' lanes and the low value past them. -/
theorem K_at (r : Fin 512) (l : Fin 128) : K m A c t (ix2 r l) = padded low (G m c (row t r)) l := by
  refine (pay29_at _ _ _ _ _ _ _ r l).trans ?_
  refine (congrArg₂ (· + ·) (Finset.sum_congr rfl fun i _ => congrArg₂ (· * ·) (norm_at m A c t hA r i) (bk6_at m c t i l)) (bk7_at m c t l)).trans ?_
  unfold padded
  by_cases h : l.val < 8
  · simp only [dif_pos h]
    exact (logits_at _ _ _ _ _ _ _ _ _ _).symm
  · simp only [dif_neg h, mul_zero, Finset.sum_const_zero, zero_add]

include hb

/-- The greatest logit. -/
theorem great_at (r : Fin 512) : great m A c t (ix2 r 0) = G m c (row t r) (one (G m c (row t r))) := by
  refine (pay30_at _ _ _ _ _ _ _ r).trans ?_
  unfold top
  rw [bits_bot]
  exact (congrArg (Finset.univ.fold max ⊥) (funext fun l => K_at m A c t hA r l)).trans (pad_max low _ (hb _))

/-- Its expert. -/
theorem first_at (r : Fin 512) : first m A c t (ix2 r 0) = BitVec.ofNat 32 (one (G m c (row t r))).val := by
  refine (pay31_at _ _ _ _ _ _ _ r).trans (Eq.trans (congrArg (Finset.univ.fold IntOp.minsi 2147483647#32) (funext fun l => ?_)) (pad_low low _ (hb _)))
  refine (if_congr ?_ rfl rfl)
  show K m A c t (ix2 r l) = great m A c t (ix2 r 0) ↔ _
  rw [K_at m A c t hA, great_at m A c t hA hb]

/-- The logits without it. -/
theorem rest_at (r : Fin 512) (l : Fin 128) : rest m A c t (ix2 r l) = drop low (G m c (row t r)) (one (G m c (row t r))) l := by
  refine (pay32_at _ _ _ _ _ _ _ r l).trans ?_
  show (if BitVec.ofNat 32 l.val = first m A c t (ix2 r 0) then low else K m A c t (ix2 r l)) = _
  rw [K_at m A c t hA, first_at m A c t hA hb]
  unfold drop
  exact if_congr (word_eq _ _ (by omega) (by omega)) rfl rfl

/-- The second greatest logit. -/
theorem second_at (r : Fin 512) : k0_pay33 (rest m A c t) (ix2 r 0) = G m c (row t r) (two (G m c (row t r))) := by
  refine (pay33_at _ r).trans ?_
  unfold top
  rw [bits_bot]
  exact (congrArg (Finset.univ.fold max ⊥) (funext fun l => rest_at m A c t hA hb r l)).trans (drop_max low _ (hb _))

/-- Its expert. -/
theorem other_at (r : Fin 512) : k0_pay34 (F := Ideal) lanes (rest m A c t) (ix2 r 0) = BitVec.ofNat 32 (two (G m c (row t r))).val := by
  refine (pay34_at _ r).trans (Eq.trans (congrArg (Finset.univ.fold IntOp.minsi 2147483647#32) (funext fun l => ?_)) (drop_low low _ (hb _)))
  refine (if_congr ?_ rfl rfl)
  rw [rest_at m A c t hA hb, second_at m A c t hA hb]

/-- The exponential of their difference. -/
theorem odds_at (r : Fin 512) : k0_pay35 (great m A c t) (rest m A c t) (ix2 r 0) = odds (G m c (row t r)) := by
  refine (pay35_at _ _ r).trans ?_
  rw [second_at m A c t hA hb, great_at m A c t hA hb]
  rfl

/-! ## The places -/

/-- The first expert's lane. -/
theorem lane1_at (r : Fin 512) (l : Fin 128) :
    k0_pay38 (F := Ideal) lanes (first m A c t) (ix2 r l) = if l.val = (one (G m c (row t r))).val then 1 else 0 := by
  rw [pay38_at, first_at m A c t hA hb]
  exact if_congr (word_eq _ _ (by omega) (by omega)) rfl rfl

/-- The second expert's lane. -/
theorem lane2_at (r : Fin 512) (l : Fin 128) :
    k0_pay39 (F := Ideal) lanes (rest m A c t) (ix2 r l) = if l.val = (two (G m c (row t r))).val then 1 else 0 := by
  rw [pay39_at, other_at m A c t hA hb]
  exact if_congr (word_eq _ _ (by omega) (by omega)) rfl rfl

/-- A row's choices of an expert. -/
theorem hits_at (r : Fin 512) (e : Fin 8) :
    k0_pay40 (F := Ideal) lanes (first m A c t) (rest m A c t) (ix2 r (lane e)) = ((hits (G m c) e (t.val * 512 + r.val) : ℝ) : EReal) := by
  rw [pay40_at, lane1_at m A c t hA hb, lane2_at m A c t hA hb]
  have hr : t.val * 512 + r.val < 2048 := (row t r).isLt
  unfold hits hit
  rw [dif_pos hr, Nat.cast_add, EReal.coe_add]
  refine congrArg₂ (· + ·) ?_ ?_
  · rw [Nat.cast_ite, Nat.cast_one, Nat.cast_zero]
    by_cases h : one (G m c (row t r)) = e
    · rw [if_pos h, if_pos (congrArg Fin.val h.symm)]; rfl
    · rw [if_neg h, if_neg fun q => h (Fin.ext q.symm)]; rfl
  · rw [Nat.cast_ite, Nat.cast_one, Nat.cast_zero]
    by_cases h : two (G m c (row t r)) = e
    · rw [if_pos h, if_pos (congrArg Fin.val h.symm)]; rfl
    · rw [if_neg h, if_neg fun q => h (Fin.ext q.symm)]; rfl

/-- The counts of a whole block. -/
theorem block_at (e : Fin 8) : ∑ j : Fin 512, k0_pay40 (F := Ideal) lanes (first m A c t) (rest m A c t) (ix2 j (lane e))
    = (((∑ j ∈ Finset.range 512, hits (G m c) e (t.val * 512 + j) : ℕ) : ℝ) : EReal) := by
  rw [Finset.sum_congr rfl fun j _ => hits_at m A c t hA hb j e, sum_real, Fin.sum_univ_eq_sum_range (fun j => hits (G m c) e (t.val * 512 + j)) 512]

variable (z : FVec Ideal S1x128 .f32) (hz : ∀ e : Fin 8, z (ix2 0 (lane e)) = ((tally (G m c) (t.val * 512) e : ℝ) : EReal))
include hz

/-- The choices of an expert by all the rows before. -/
theorem before_at (r : Fin 512) (e : Fin 8) :
    k0_pay41 (F := Ideal) lanes (first m A c t) (rest m A c t) z (ix2 r (lane e)) = ((tally (G m c) (row t r).val e : ℝ) : EReal) := by
  rw [pay41_at, hz]
  have h : ∀ j : Fin 512, (if j.val < r.val then (1 : EReal) else 0) * k0_pay40 (F := Ideal) lanes (first m A c t) (rest m A c t) (ix2 j (lane e))
      = (((if j.val < r.val then hits (G m c) e (t.val * 512 + j.val) else 0 : ℕ) : ℝ) : EReal) := fun j => by
    rw [hits_at m A c t hA hb]
    split
    · exact one_mul _
    · rw [zero_mul, Nat.cast_zero]; rfl
  rw [Finset.sum_congr rfl fun j _ => h j, sum_real, ← EReal.coe_add, ← Nat.cast_add,
    Fin.sum_univ_eq_sum_range (fun j => if j < r.val then hits (G m c) e (t.val * 512 + j) else 0) 512, ← Finset.sum_filter,
    show (Finset.range 512).filter (· < r.val) = Finset.range r.val by ext j; simp only [Finset.mem_filter, Finset.mem_range]; omega]
  unfold tally
  rw [show (row t r).val = t.val * 512 + r.val from rfl, Finset.sum_range_add, add_comm]

/-- The counts left are those of all the rows so far. -/
theorem left_at (e : Fin 8) :
    k0_pay44 (F := Ideal) lanes (first m A c t) (rest m A c t) z (ix2 0 (lane e)) = ((tally (G m c) (t.val * 512 + 512) e : ℝ) : EReal) := by
  rw [pay44_at, hz, block_at m A c t hA hb, ← EReal.coe_add, ← Nat.cast_add]
  unfold tally
  rw [Finset.sum_range_add]

omit hA hb hz in
/-- A sum over the lanes that keeps one expert's. -/
theorem keep (X : Fin 128 → EReal) (a : Fin 8) : ∑ l : Fin 128, X l * (if l.val = a.val then 1 else 0) = X (lane a) := by
  rw [Finset.sum_eq_single (lane a) (fun l _ h => by rw [if_neg fun q => h (Fin.ext q), mul_zero]) (fun h => absurd (Finset.mem_univ _) h),
    if_pos rfl, mul_one]

/-- The point's routing rows are the reference's. -/
theorem route_at (r : Fin 512) (l : Fin 128) : route m A z c t (ix2 r l) = routing (G m c) (row t r) l.val := by
  refine (pay45_at _ _ _ _ _ _ r l).trans ?_
  have p4 : k0_pay42 (F := Ideal) lanes (first m A c t) (rest m A c t) z (ix2 r 0) = ((tally (G m c) (row t r).val (one (G m c (row t r))) : ℝ) : EReal) := by
    rw [pay42_at, Finset.sum_congr rfl fun l _ => congrArg (_ * ·) (lane1_at m A c t hA hb r l), keep, before_at m A c t hA hb z hz]
  have p5 : k0_pay43 (F := Ideal) lanes (first m A c t) (rest m A c t) z (ix2 r 0) = ((tally (G m c) (row t r).val (two (G m c (row t r))) : ℝ) : EReal) := by
    rw [pay43_at, Finset.sum_congr rfl fun l _ => congrArg (_ * ·) (lane2_at m A c t hA hb r l), keep, before_at m A c t hA hb z hz]
  rw [pay37_at, pay36_at, odds_at m A c t hA hb, first_at m A c t hA hb, other_at m A c t hA hb, p4, p5,
    sitofp_small _ (by omega), sitofp_small _ (by omega)]
  rfl

end

/-! ## Point after point -/

/-- The counts a point starts from are those of all the rows before its block. -/
theorem start_at (c : Dev nD) (hb : ∀ R e, low < G m c R e) (n : ℕ) : ∀ t : Fin cfg0.N, t.val = n → ∀ e : Fin 8,
    start m c t (ix2 0 (lane e)) = ((tally (G m c) (t.val * 512) e : ℝ) : EReal) := by
  induction n with
  | zero =>
    intro t ht e
    unfold start
    rw [if_pos (by omega), ht]
    pointwise [k0_pay28]
    simp [tally]
  | succ n ih =>
    intro t ht e
    have h4 := lt4 t
    have hn : n < cfg0.N := Nat.lt_of_le_of_lt (by omega) t.isLt
    obtain ⟨A, hA, hh⟩ := acc m c ⟨n, hn⟩
    have hl := left_at m A c ⟨n, hn⟩ hh hb _ (ih ⟨n, hn⟩ rfl) e
    unfold start
    rw [if_neg (by omega)]
    have hp : t.val - 1 = n := by omega
    have h2 : (outsAt0 m c (t.val - 1) (Nat.lt_of_le_of_lt (Nat.sub_le _ _) t.isLt)).2.2 = (outsAt0 m c n hn).2.2 := by simp only [hp]
    rw [h2, show outsAt0 m c n hn = _ from hA, show t.val * 512 = n * 512 + 512 by omega]
    exact hl

/-- The reference's routing rows at the call's arguments. -/
def rows (c : Dev nD) : FVec Ideal S2048x128 .f32 := fun i => routing (G m c) (i 0 : Fin 2048) (i 1 : Fin 128).val

/-- Where every logit lies above the low value, the call's second output array holds the routing rows. -/
theorem arr9 (c : Dev nD) (hb : ∀ R e, low < G m c R e) : (dats m 0 c).arrAt 9 cfg0.N = rows m c := by
  refine (dats m 0 c).arrAt_eq_of_covers 9 _ (by decide +kernel) fun t hf y => ?_
  blk_simp
  rw [after0_9]
  obtain ⟨A, hA, hh⟩ := acc m c t
  rw [hA]
  obtain ⟨r, l, rfl⟩ := (fun y => ⟨y 0, y 1, eq_ix2 y⟩ : ∀ y : S512x128.Idx, ∃ (r : Fin 512) (l : Fin 128), y = ix2 r l) y
  rw [emb9 t r l]
  exact route_at m A c t hh hb _ (start_at m c hb t.val t rfl) r l

end Cert.MegaIdeal.Hand

end
-- ==== Proof.MegaMask.lean ====
/- What the attention call's mask says of the logits. -/
module

public import proofs.«01_k».proof.Proof.MegaRoute
public import proofs.«01_k».proof.Proof.Gen.On_routed

@[expose] public section

set_option maxRecDepth 16384

noncomputable section

namespace Cert.On_routed.Hand

open Cert.On_routed
open Cert.MegaRefIdeal.Hand (logits)
open Cert.MegaRefIdeal.Read
open Idealize.ShloMosaic Idealize.ShloMosaic.TcCoe Idealize.ShloMosaic.Tactic

/-- Where a conjunction of bits is set, every bit is. -/
theorem fold_all {ι : Type} [Fintype ι] [DecidableEq ι] (f : ι → BitVec 1) (h : Finset.univ.fold IntOp.andi 1#1 f = 1#1) (k : ι) : f k = 1#1 := by
  have hand : ∀ x y : BitVec 1, IntOp.andi x y = 1#1 → x = 1#1 ∧ y = 1#1 := by decide
  have hall : ∀ s : Finset ι, s.fold IntOp.andi 1#1 f = 1#1 → ∀ k ∈ s, f k = 1#1 := fun s => by
    induction s using Finset.induction_on with
    | empty => exact fun _ k hk => absurd hk (Finset.notMem_empty k)
    | insert a s ha ih =>
      rw [Finset.fold_insert ha]
      exact fun h k hk => (Finset.mem_insert.1 hk).elim (fun q => q ▸ (hand _ _ h).1) fun q => ih (hand _ _ h).2 k q
  exact hall _ h k (Finset.mem_univ k)

/-- Where the mask selects a place of the second result, each of the bits it joins is set. -/
theorem all_set (v : IVec S2048x8 1) (i : S2048x128.Idx) (h : (fn_part3 (F := Ideal) v).2 i = 1#1) (r : Fin 2048) (e : Fin 8) : v (ix2 r e) = 1#1 := by
  revert h
  unfold fn_part3
  pointwise
  exact fun h => fold_all (fun k : Fin 2048 × Fin 8 => v (ix2 k.1 k.2)) h (r, e)

/-- The mask's bits over an array of logits: above the low value and below the high one. -/
def bits (y : FVec Ideal S2048x8 .f32) : IVec S2048x8 1 :=
  andi (cmpf .ogt y (broadcastInDim S2048x8 ![] Gen.bcast_S_S2048x8 (constant S_ .f32 0xF149F2CA#32)))
    (cmpf .olt y (broadcastInDim S2048x8 ![] Gen.bcast_S_S2048x8 (constant S_ .f32 0x7149F2CA#32)))

variable (x0 : FVec Ideal S2048x2304 .f32) (x1 : FVec Ideal S768x768 .f32) (x2 : FVec Ideal S768 .f32) (x3 : FVec Ideal S2048x768 .f32)
  (x4 x5 : FVec Ideal S768 .f32) (x6 : FVec Ideal S768x8 .f32) (x7 : FVec Ideal S8 .f32)

/-- The mask's variance is the reference's. -/
theorem var_eq : fn_var (F := Ideal) (val_main_v34 (F := Ideal) x0 x1 x2 x3) (constantI S_ 32 0#32) = val_main_v39 (F := Ideal) x0 x1 x2 x3 := by
  unfold val_main_v39 val_main_call0_v12 val_main_call0_v10 val_main_call0_v9 val_main_call0_v6 val_main_call0_v5 val_main_call0_v4 val_main_call0_v3 val_main_call0_v1 val_main_call0_v0
  generalize val_main_v34 (F := Ideal) x0 x1 x2 x3 = y
  rfl

/-- From the residual sum on, the mask computes the reference's logits. -/
theorem tail_eq : fn_part2 (F := Ideal) x4 x5 x6 x7 (val_main_v34 (F := Ideal) x0 x1 x2 x3) (val_main_v39 (F := Ideal) x0 x1 x2 x3) (val_main_v40 (F := Ideal) x0 x1 x2 x3)
    = fn_part3 (F := Ideal) (bits (val_main_v56 (F := Ideal) x0 x1 x2 x3 x4 x5 x6 x7)) := by
  unfold val_main_v56 val_main_v53 val_main_v52 val_main_v49 val_main_v46 val_main_v45 val_main_v44 val_main_v43 val_main_v41
  generalize val_main_v34 (F := Ideal) x0 x1 x2 x3 = y
  generalize val_main_v39 (F := Ideal) x0 x1 x2 x3 = z
  generalize val_main_v40 (F := Ideal) x0 x1 x2 x3 = w
  rfl

/-- The residual sum, from the scores on. -/
theorem mid_eq : fn_part1 (F := Ideal) x1 x2 x3 x4 x5 x6 x7 (val_main_v8 (F := Ideal) x0) (val_main_v20 (F := Ideal) x0)
    = fn_part2 (F := Ideal) x4 x5 x6 x7 (val_main_v34 (F := Ideal) x0 x1 x2 x3) (fn_var (F := Ideal) (val_main_v34 (F := Ideal) x0 x1 x2 x3) (constantI S_ 32 0#32)) (val_main_v40 (F := Ideal) x0 x1 x2 x3) := by
  unfold val_main_v40 val_main_v38 val_main_v36 val_main_v35 val_main_v34 val_main_v33 val_main_v30 val_main_v28 val_main_v27 val_main_v26 val_main_v25 val_main_v24 val_main_v23 val_main_v22 val_main_v21
  generalize val_main_v8 (F := Ideal) x0 = y
  generalize val_main_v20 (F := Ideal) x0 = z
  rfl

/-- The scores. -/
theorem head_eq : fn (F := Ideal) x0 x1 x2 x3 x4 x5 x6 x7 = fn_part1 (F := Ideal) x1 x2 x3 x4 x5 x6 x7 (val_main_v8 (F := Ideal) x0) (val_main_v20 (F := Ideal) x0) := by
  unfold fn
  refine congrArg₂ (fn_part1 (F := Ideal) x1 x2 x3 x4 x5 x6 x7) rfl ?_
  unfold val_main_v20 val_main_v19 val_main_v18 val_main_v17 val_main_v15
  rfl

/-- Where the mask selects a place of the second result, every logit lies between the low value and the high one. -/
theorem in_range (i : S2048x128.Idx) (h : (fn (F := Ideal) x0 x1 x2 x3 x4 x5 x6 x7).2 i = 1#1) (r : Fin 2048) (e : Fin 8) :
    Ideal.ofBits .f32 0xF149F2CA#32 < logits x0 x1 x2 x3 x4 x5 x6 x7 r e ∧ logits x0 x1 x2 x3 x4 x5 x6 x7 r e < Ideal.ofBits .f32 0x7149F2CA#32 := by
  rw [head_eq, mid_eq, var_eq, tail_eq] at h
  have hv := all_set _ i h r e
  revert hv
  unfold logits bits
  generalize val_main_v56 (F := Ideal) x0 x1 x2 x3 x4 x5 x6 x7 = y
  pointwise
  have hand : ∀ p q : Bool, IntOp.andi (BitVec.ofBool p) (BitVec.ofBool q) = 1#1 → p = true ∧ q = true := by decide
  exact fun hv => ⟨of_decide_eq_true (hand _ _ hv).1, of_decide_eq_true (hand _ _ hv).2⟩

end Cert.On_routed.Hand

end
-- ==== Proof.MegaAlgebraic.lean ====
/- The attention call and its reference end with the same normalized rows and, where the mask selects, the same routing rows. -/
module

public import proofs.«01_k».proof.Proof.MegaMeta
public import proofs.«01_k».proof.Proof.MegaMask
public import proofs.«01_k».proof.Proof.Gen.MegaRefIdeal.Run
public import proofs.«01_k».proof.Defs

@[expose] public section

set_option maxRecDepth 16384

noncomputable section

namespace Cert.MegaIdeal.Hand

open Cert.MegaIdeal Cert.MegaIdeal.Gen
open Idealize.ShloMosaic Idealize.ShloMosaic.TcCoe Idealize.ShloMosaic.Tactic
open Idealize.SL Idealize.SL.RA Idealize.SL.Sem

/-- Where the mask selects a place of the second result, the reference's second result is the call's. -/
theorem arr9_ref (m : (ℓ : Loc nD τ sig) → Buf (Elt Ideal) ℓ) (c : Dev nD) (i : S2048x128.Idx)
    (h : (Cert.On_routed.fn (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))).2 i = 1#1) :
    Cert.MegaRefIdeal.Read.val_main_v85 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) i = (dats m 0 c).arrAt 9 cfg0.N i := by
  have hr := Cert.On_routed.Hand.in_range _ _ _ _ _ _ _ _ i h
  rw [arr9 m c fun R e => (hr R e).1]
  obtain ⟨r, l, rfl⟩ := (fun y => ⟨y 0, y 1, eq_ix2 y⟩ : ∀ y : S2048x128.Idx, ∃ (r : Fin 2048) (l : Fin 128), y = ix2 r l) i
  exact Cert.MegaRefIdeal.Hand.v85_at _ _ _ _ _ _ _ _ r l fun e =>
    ⟨_, (EReal.coe_toReal ((hr r e).2.trans_le le_top).ne (bot_le.trans_lt (hr r e).1).ne').symm⟩

/-- The call and its reference end with the same results, the second where the mask selects it. -/
theorem algebraic : Cert.algebraic_MegaIdeal_MegaRefIdeal_on_routed := fun m ρ m' ρ' _ hag =>
  ⟨fun c => (dats m 0 c).arrAt 8 cfg0.N, fun c => (dats m 0 c).arrAt 9 cfg0.N,
    (θ_run _ _ _).mono (fun _ h c => ⟨fun i _ => congrFun (h c).1 i, fun i _ => congrFun (h c).2.1 i, (h c).2.2⟩) (Value.run_blocks m ρ),
    (θ_run Cert.MegaRefIdeal.defs _ _).mono (fun _ h c => ⟨fun i _ => by
      have hc := hag c
      rw [(h c).1, Cert.MegaRefIdeal.Read.val_main_v52_eq]
      change Cert.MegaRefIdeal.Read.val_main_v52 (F := Ideal) (m' (c.tc.loc Cert.MegaRefIdeal.main_arg0)) (m' (c.tc.loc Cert.MegaRefIdeal.main_arg1))
        (m' (c.tc.loc Cert.MegaRefIdeal.main_arg2)) (m' (c.tc.loc Cert.MegaRefIdeal.main_arg3)) (m' (c.tc.loc Cert.MegaRefIdeal.main_arg4))
        (m' (c.tc.loc Cert.MegaRefIdeal.main_arg5)) i = _
      rw [hc.1, hc.2.1, hc.2.2.1, hc.2.2.2.1, hc.2.2.2.2.1, hc.2.2.2.2.2.1]
      exact congrFun (arr8 m c).symm i, fun i hi => by
      have hc := hag c
      rw [(h c).2.1, Cert.MegaRefIdeal.Read.val_main_v85_eq]
      change Cert.MegaRefIdeal.Read.val_main_v85 (F := Ideal) (m' (c.tc.loc Cert.MegaRefIdeal.main_arg0)) (m' (c.tc.loc Cert.MegaRefIdeal.main_arg1))
        (m' (c.tc.loc Cert.MegaRefIdeal.main_arg2)) (m' (c.tc.loc Cert.MegaRefIdeal.main_arg3)) (m' (c.tc.loc Cert.MegaRefIdeal.main_arg4))
        (m' (c.tc.loc Cert.MegaRefIdeal.main_arg5)) (m' (c.tc.loc Cert.MegaRefIdeal.main_arg6)) (m' (c.tc.loc Cert.MegaRefIdeal.main_arg7)) i = _
      rw [hc.1, hc.2.1, hc.2.2.1, hc.2.2.2.1, hc.2.2.2.2.1, hc.2.2.2.2.2.1, hc.2.2.2.2.2.2.1, hc.2.2.2.2.2.2.2]
      exact arr9_ref m c i hi, (h c).2.2⟩)
      (Cert.MegaRefIdeal.Value.run m' ρ')⟩

end Cert.MegaIdeal.Hand

end
-- ==== Proof.MoeChunk.lean ====
/- The expert feed-forward call, one grid point: the point's body as a sequence of guarded steps, each running one
   block of 128 rows, and what each step leaves. -/
module

public import proofs.«01_k».proof.Proof.Gen.MoeIdeal.Skeleton
public import proofs.«01_k».proof.Proof.Gen.MoeIdeal.Launch
public import Idealize.ShloMosaic.Lib.Pipeline.FrameBody
public import Idealize.ShloMosaic.Lib.Ring
public import Idealize.ShloMosaic.Lib.Tactic
public import Idealize.ShloMosaic.Lib.VecWindow
public import Idealize.ShloMosaic.Lib.WholeRead

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A TensorCore program of this call that returns nothing. -/
abbrev Pg : Type _ := Prog (TpuEff nD τ sig (Elt F) Λ₀ .tc) PUnit

/-- One guarded step followed by the rest `J`: under `C`, the 128 rows at `o` of the normalized tokens go through the
    two matrix products and are added to the same rows of the output block. -/
def chunk (a6 : Memref sig .tc .vmem S1x1x768x1536 .f32) (a7 : Memref sig .tc .vmem S1x1x1536 .f32)
    (a8 : Memref sig .tc .vmem S1x1x1536x768 .f32) (a10 a11 : Memref sig .tc .vmem S1024x768 .f32)
    (o : Fin 2 → ℕ) (ho : ∀ a, o a + S128x768.size a ≤ S1024x768.size a) (C : Prop) [Decidable C]
    (J : PUnit.{1} → Pg (F := F)) : Pg (F := F) :=
  if C then do
    let v29 : Vec F S128x768 .f32 ← Prog.lift (.load a11 (Rect.unit (s := S1024x768) o S128x768.size ho).toLoadRect (View.loadsAt_vmem h_S128x768))
    let v31 : Vec F S1x1x768x1536 .f32 ← Prog.lift (.load a6 (Rect.unit (s := S1x1x768x1536) ![0, 0, 0, 0] S1x1x768x1536.size inb_S1x1x768x1536_S1x1x768x1536_0_0_0_0).toLoadRect (View.loadsAt_vmem h_S1x1x768x1536))
    let v35 : Vec F S1x1x1536 .f32 ← Prog.lift (.load a7 (Rect.unit (s := S1x1x1536) ![0, 0, 0] S1x1x1536.size inb_S1x1x1536_S1x1x1536_0_0_0).toLoadRect (View.loadsAt_vmem h_S1x1x1536))
    let v47 : Vec F S128x768 .f32 ← Prog.lift (.load a10 (Rect.unit (s := S1024x768) o S128x768.size ho).toLoadRect (View.loadsAt_vmem h_S128x768))
    let v50 : Vec F S1x1x1536x768 .f32 ← Prog.lift (.load a8 (Rect.unit (s := S1x1x1536x768) ![0, 0, 0, 0] S1x1x1536x768.size inb_S1x1x1536x768_S1x1x1536x768_0_0_0_0).toLoadRect (View.loadsAt_vmem h_S1x1x1536x768))
    let _ : Vec F S128x768 .f32 ← Prog.lift (.load a10 (Rect.unit (s := S1024x768) o S128x768.size ho).toLoadRect (View.loadsAt_vmem h_S128x768))
    Prog.lift (.store a10 (Rect.unit (s := S1024x768) o S128x768.size ho) (k0_pay3 v29 v31 v35 v47 v50) Finset.univ (View.stores_vmem_bits_univ h_S128x768 rfl) (.inl rfl))
    J ⟨⟩
  else J ⟨⟩

/-- What a guarded step leaves in the output block `O`, from the normalized tokens `L` and the blocks of the weights. -/
def upd (x6 : Vec F S1x1x768x1536 .f32) (x7 : Vec F S1x1x1536 .f32) (x8 : Vec F S1x1x1536x768 .f32) (L : Vec F S1024x768 .f32)
    (o : Fin 2 → ℕ) (ho : ∀ a, o a + S128x768.size a ≤ S1024x768.size a) (C : Prop) [Decidable C] (O : Vec F S1024x768 .f32) :
    Vec F S1024x768 .f32 :=
  if C then VecWindow.put O o S128x768.size
    (k0_pay3 (VecWindow.window L o S128x768.size ho) x6 x7 (VecWindow.window O o S128x768.size ho) x8)
  else O

/-- A guarded step followed by `J` runs when `J` runs over the output block the step leaves. -/
theorem chunk_wp (c : Dev nD) {a6 : Memref sig .tc .vmem S1x1x768x1536 .f32} (h6 : a6.IsWhole) {a7 : Memref sig .tc .vmem S1x1x1536 .f32} (h7 : a7.IsWhole)
    {a8 : Memref sig .tc .vmem S1x1x1536x768 .f32} (h8 : a8.IsWhole) {a10 : Memref sig .tc .vmem S1024x768 .f32} (h10 : a10.IsWhole) {a11 : Memref sig .tc .vmem S1024x768 .f32} (h11 : a11.IsWhole)
    (o : Fin 2 → ℕ) (ho : ∀ a, o a + S128x768.size a ≤ S1024x768.size a) (C : Prop) [Decidable C] (J : PUnit.{1} → Pg (F := F))
    (x6 : Vec F S1x1x768x1536 .f32) (x7 : Vec F S1x1x1536 .f32) (x8 : Vec F S1x1x1536x768 .f32) (O L : Vec F S1024x768 .f32)
    (E : Set ℕ) (K : PUnit → sProp 𝕄) :
    iprop(owns (c : Thread nD τ) a6 fullShare x6 ∗ owns (c : Thread nD τ) a7 fullShare x7 ∗ owns (c : Thread nD τ) a8 fullShare x8
      ∗ owns (c : Thread nD τ) a10 fullShare O ∗ owns (c : Thread nD τ) a11 fullShare L
      ∗ (iprop(owns (c : Thread nD τ) a6 fullShare x6 ∗ owns (c : Thread nD τ) a7 fullShare x7 ∗ owns (c : Thread nD τ) a8 fullShare x8
          ∗ owns (c : Thread nD τ) a10 fullShare (upd x6 x7 x8 L o ho C O) ∗ owns (c : Thread nD τ) a11 fullShare L)
        -∗ wp frame (wpE (defs₀ (F := F)) Variants.none c none) E (J ⟨⟩) K))
    ⊢ wp frame (wpE (defs₀ (F := F)) Variants.none c none) E (chunk a6 a7 a8 a10 a11 o ho C J) K := by
  unfold chunk upd
  by_cases hC : C
  · rw [if_pos hC, if_pos hC]
    unfold owns
    iintro ⟨⟨%f6, %hf6, H6⟩, ⟨%f7, %hf7, H7⟩, ⟨%f8, %hf8, H8⟩, ⟨%f10, %hf10, H10⟩, ⟨%f11, %hf11, H11⟩, Hk⟩
    obtain rfl := h6.eq_unread hf6; obtain rfl := h7.eq_unread hf7; obtain rfl := h8.eq_unread hf8; obtain rfl := h10.eq_unread hf10; obtain rfl := h11.eq_unread hf11
    sl_exec
    iapply Hk
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H10]
    · iexists _; isplitr; swap; · iexact H10
      ipureintro
      refine (View.read_writes_cons_put a10.view _ ho _ [] rfl).trans ?_
      rw [View.writes_nil, hf10]
      refine congrArg (VecWindow.put O o S128x768.size) ?_
      rw [View.readAt_full (s := S1x1x768x1536), View.readAt_full (s := S1x1x1536), View.readAt_full (s := S1x1x1536x768), hf6, hf7, hf8]
      refine congrArg₂ (fun u v => k0_pay3 u x6 x7 v x8) ?_ ?_
      · exact (View.readAt_unit a11.view _ ho rfl ho).trans (by rw [hf11])
      · exact (View.readAt_unit a10.view _ ho rfl ho).trans (by rw [hf10])
    iexists _; isplitr; · ipureintro; exact hf11
    iexact H11
  · rw [if_neg hC, if_neg hC]
    iintro ⟨H6, H7, H8, H10, H11, Hk⟩
    iapply Hk
    isplitl [H6]; · iexact H6
    isplitl [H7]; · iexact H7
    isplitl [H8]; · iexact H8
    isplitl [H10]; · iexact H10
    iexact H11

/-- The first step of a point, followed by the rest `J`: under `C`, the tokens are normalized into the scratch buffer
    and the output block is started at the tokens plus the second bias. -/
def head (a3 : Memref sig .tc .vmem S1024x768 .f32) (a4 a5 a9 : Memref sig .tc .vmem S1x1x768 .f32)
    (a10 a11 : Memref sig .tc .vmem S1024x768 .f32) (C : Prop) [Decidable C] (J : PUnit.{1} → Pg (F := F)) : Pg (F := F) :=
  if C then do
    let v29 : Vec F S1024x768 .f32 ← Prog.lift (.load a3 (Rect.unit (s := S1024x768) ![0, 0] S1024x768.size inb_S1024x768_S1024x768_0_0).toLoadRect (View.loadsAt_vmem h_S1024x768))
    let v30 : Vec F S1x1x768 .f32 ← Prog.lift (.load a4 (Rect.unit (s := S1x1x768) ![0, 0, 0] S1x1x768.size inb_S1x1x768_S1x1x768_0_0_0).toLoadRect (View.loadsAt_vmem h_S1x1x768))
    let v32 : Vec F S1x1x768 .f32 ← Prog.lift (.load a5 (Rect.unit (s := S1x1x768) ![0, 0, 0] S1x1x768.size inb_S1x1x768_S1x1x768_0_0_0).toLoadRect (View.loadsAt_vmem h_S1x1x768))
    let _ : Vec F S1024x768 .f32 ← Prog.lift (.load a11 (Rect.unit (s := S1024x768) ![0, 0] S1024x768.size inb_S1024x768_S1024x768_0_0).toLoadRect (View.loadsAt_vmem h_S1024x768))
    Prog.lift (.store a11 (Rect.unit (s := S1024x768) ![0, 0] S1024x768.size inb_S1024x768_S1024x768_0_0) (k0_pay1 v29 v30 v32) Finset.univ (View.stores_vmem_bits_univ h_S1024x768 rfl) (.inl rfl))
    let v57 : Vec F S1x1x768 .f32 ← Prog.lift (.load a9 (Rect.unit (s := S1x1x768) ![0, 0, 0] S1x1x768.size inb_S1x1x768_S1x1x768_0_0_0).toLoadRect (View.loadsAt_vmem h_S1x1x768))
    let _ : Vec F S1024x768 .f32 ← Prog.lift (.load a10 (Rect.unit (s := S1024x768) ![0, 0] S1024x768.size inb_S1024x768_S1024x768_0_0).toLoadRect (View.loadsAt_vmem h_S1024x768))
    Prog.lift (.store a10 (Rect.unit (s := S1024x768) ![0, 0] S1024x768.size inb_S1024x768_S1024x768_0_0) (k0_pay2 v29 v57) Finset.univ (View.stores_vmem_bits_univ h_S1024x768 rfl) (.inl rfl))
    J ⟨⟩
  else J ⟨⟩

/-- The first step under its guard: whatever the scratch buffer and the output block held, the rest runs over the
    normalized tokens and the started output block. -/
theorem head_wp (c : Dev nD) {a3 : Memref sig .tc .vmem S1024x768 .f32} (h3 : a3.IsWhole) {a4 : Memref sig .tc .vmem S1x1x768 .f32} (h4 : a4.IsWhole)
    {a5 : Memref sig .tc .vmem S1x1x768 .f32} (h5 : a5.IsWhole) {a9 : Memref sig .tc .vmem S1x1x768 .f32} (h9 : a9.IsWhole)
    {a10 : Memref sig .tc .vmem S1024x768 .f32} (h10 : a10.IsWhole) {a11 : Memref sig .tc .vmem S1024x768 .f32} (h11 : a11.IsWhole)
    (C : Prop) [Decidable C] (hC : C) (J : PUnit.{1} → Pg (F := F))
    (x3 : Vec F S1024x768 .f32) (x4 x5 x9 : Vec F S1x1x768 .f32) (E : Set ℕ) (K : PUnit → sProp 𝕄) :
    iprop(owns (c : Thread nD τ) a3 fullShare x3 ∗ owns (c : Thread nD τ) a4 fullShare x4 ∗ owns (c : Thread nD τ) a5 fullShare x5 ∗ owns (c : Thread nD τ) a9 fullShare x9
      ∗ (∃ d, owns (c : Thread nD τ) a10 fullShare d) ∗ (∃ d, owns (c : Thread nD τ) a11 fullShare d)
      ∗ (iprop(owns (c : Thread nD τ) a3 fullShare x3 ∗ owns (c : Thread nD τ) a4 fullShare x4 ∗ owns (c : Thread nD τ) a5 fullShare x5 ∗ owns (c : Thread nD τ) a9 fullShare x9
          ∗ owns (c : Thread nD τ) a10 fullShare (k0_pay2 x3 x9) ∗ owns (c : Thread nD τ) a11 fullShare (k0_pay1 x3 x4 x5))
        -∗ wp frame (wpE (defs₀ (F := F)) Variants.none c none) E (J ⟨⟩) K))
    ⊢ wp frame (wpE (defs₀ (F := F)) Variants.none c none) E (head a3 a4 a5 a9 a10 a11 C J) K := by
  unfold head
  rw [if_pos hC]
  unfold owns
  iintro ⟨⟨%f3, %hf3, H3⟩, ⟨%f4, %hf4, H4⟩, ⟨%f5, %hf5, H5⟩, ⟨%f9, %hf9, H9⟩, ⟨%d10, %f10, %hf10, H10⟩, ⟨%d11, %f11, %hf11, H11⟩, Hk⟩
  obtain rfl := h3.eq_unread hf3; obtain rfl := h4.eq_unread hf4; obtain rfl := h5.eq_unread hf5; obtain rfl := h9.eq_unread hf9; obtain rfl := h10.eq_unread hf10; obtain rfl := h11.eq_unread hf11
  sl_exec
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H9]
  · iexists _; isplitr; · ipureintro; exact hf9
    iexact H9
  isplitl [H10]
  · iexists _; isplitr; swap; · iexact H10
    ipureintro
    refine (View.read_writes_full a10.view _ _ _ []).trans ?_
    rw [View.readAt_full (s := S1024x768), View.readAt_full (s := S1x1x768), hf3, hf9]
  iexists _; isplitr; swap; · iexact H11
  ipureintro
  refine (View.read_writes_full a11.view _ _ _ []).trans ?_
  rw [View.readAt_full (s := S1024x768), View.readAt_full (s := S1x1x768), View.readAt_full (s := S1x1x768), hf3, hf4, hf5]

/-- The first step without its guard is the rest. -/
theorem head_neg {a3 : Memref sig .tc .vmem S1024x768 .f32} {a4 a5 a9 : Memref sig .tc .vmem S1x1x768 .f32}
    {a10 a11 : Memref sig .tc .vmem S1024x768 .f32} (C : Prop) [Decidable C] (hC : ¬C) (J : PUnit.{1} → Pg (F := F)) :
    head a3 a4 a5 a9 a10 a11 C J = J ⟨⟩ := if_neg hC

/-- A point's body after its first step: the eight guarded steps, `n` the count of the point's expert. -/
def steps (a6 : Memref sig .tc .vmem S1x1x768x1536 .f32) (a7 : Memref sig .tc .vmem S1x1x1536 .f32)
    (a8 : Memref sig .tc .vmem S1x1x1536x768 .f32) (a10 a11 : Memref sig .tc .vmem S1024x768 .f32) (n : Elt F .i32) : Pg (F := F) :=
  chunk a6 a7 a8 a10 a11 ![0, 0] inb_S1024x768_S128x768_0_0 (k0_cond2 n = 1#1) fun _ =>
  chunk a6 a7 a8 a10 a11 ![128, 0] inb_S1024x768_S128x768_128_0 (k0_cond3 n = 1#1) fun _ =>
  chunk a6 a7 a8 a10 a11 ![256, 0] inb_S1024x768_S128x768_256_0 (k0_cond4 n = 1#1) fun _ =>
  chunk a6 a7 a8 a10 a11 ![384, 0] inb_S1024x768_S128x768_384_0 (k0_cond5 n = 1#1) fun _ =>
  chunk a6 a7 a8 a10 a11 ![512, 0] inb_S1024x768_S128x768_512_0 (k0_cond6 n = 1#1) fun _ =>
  chunk a6 a7 a8 a10 a11 ![640, 0] inb_S1024x768_S128x768_640_0 (k0_cond7 n = 1#1) fun _ =>
  chunk a6 a7 a8 a10 a11 ![768, 0] inb_S1024x768_S128x768_768_0 (k0_cond8 n = 1#1) fun _ =>
  chunk a6 a7 a8 a10 a11 ![896, 0] inb_S1024x768_S128x768_896_0 (k0_cond9 n = 1#1) fun _ => pure ⟨⟩

/-- What the eight guarded steps leave in the output block. -/
def upds (n : Elt F .i32) (x6 : Vec F S1x1x768x1536 .f32) (x7 : Vec F S1x1x1536 .f32) (x8 : Vec F S1x1x1536x768 .f32)
    (L O : Vec F S1024x768 .f32) : Vec F S1024x768 .f32 :=
  upd x6 x7 x8 L ![896, 0] inb_S1024x768_S128x768_896_0 (k0_cond9 n = 1#1) <|
  upd x6 x7 x8 L ![768, 0] inb_S1024x768_S128x768_768_0 (k0_cond8 n = 1#1) <|
  upd x6 x7 x8 L ![640, 0] inb_S1024x768_S128x768_640_0 (k0_cond7 n = 1#1) <|
  upd x6 x7 x8 L ![512, 0] inb_S1024x768_S128x768_512_0 (k0_cond6 n = 1#1) <|
  upd x6 x7 x8 L ![384, 0] inb_S1024x768_S128x768_384_0 (k0_cond5 n = 1#1) <|
  upd x6 x7 x8 L ![256, 0] inb_S1024x768_S128x768_256_0 (k0_cond4 n = 1#1) <|
  upd x6 x7 x8 L ![128, 0] inb_S1024x768_S128x768_128_0 (k0_cond3 n = 1#1) <|
  upd x6 x7 x8 L ![0, 0] inb_S1024x768_S128x768_0_0 (k0_cond2 n = 1#1) O

/-- The eight guarded steps run. -/
theorem steps_wp (c : Dev nD) {a6 : Memref sig .tc .vmem S1x1x768x1536 .f32} (h6 : a6.IsWhole) {a7 : Memref sig .tc .vmem S1x1x1536 .f32} (h7 : a7.IsWhole)
    {a8 : Memref sig .tc .vmem S1x1x1536x768 .f32} (h8 : a8.IsWhole) {a10 : Memref sig .tc .vmem S1024x768 .f32} (h10 : a10.IsWhole) {a11 : Memref sig .tc .vmem S1024x768 .f32} (h11 : a11.IsWhole)
    (n : Elt F .i32) (x6 : Vec F S1x1x768x1536 .f32) (x7 : Vec F S1x1x1536 .f32) (x8 : Vec F S1x1x1536x768 .f32) (O L : Vec F S1024x768 .f32)
    (E : Set ℕ) (K : PUnit → sProp 𝕄) :
    iprop(owns (c : Thread nD τ) a6 fullShare x6 ∗ owns (c : Thread nD τ) a7 fullShare x7 ∗ owns (c : Thread nD τ) a8 fullShare x8
      ∗ owns (c : Thread nD τ) a10 fullShare O ∗ owns (c : Thread nD τ) a11 fullShare L
      ∗ (iprop(owns (c : Thread nD τ) a6 fullShare x6 ∗ owns (c : Thread nD τ) a7 fullShare x7 ∗ owns (c : Thread nD τ) a8 fullShare x8
          ∗ owns (c : Thread nD τ) a10 fullShare (upds n x6 x7 x8 L O) ∗ owns (c : Thread nD τ) a11 fullShare L) -∗ K ⟨⟩))
    ⊢ wp frame (wpE (defs₀ (F := F)) Variants.none c none) E (steps a6 a7 a8 a10 a11 n) K := by
  unfold steps upds
  iintro ⟨H6, H7, H8, H10, H11, Hk⟩
  iterate 8
    iapply (chunk_wp c h6 h7 h8 h10 h11 _ _ _ _ x6 x7 x8 _ L E K)
    isplitl [H6]; · iexact H6
    isplitl [H7]; · iexact H7
    isplitl [H8]; · iexact H8
    isplitl [H10]; · iexact H10
    isplitl [H11]; · iexact H11
    iintro ⟨H6, H7, H8, H10, H11⟩
  sl_step
  iapply Hk
  isplitl [H6]; · iexact H6
  isplitl [H7]; · iexact H7
  isplitl [H8]; · iexact H8
  isplitl [H10]; · iexact H10
  iexact H11

/-- The printed body is the table's load, the first step and the eight guarded steps. -/
theorem body_eq (i : grid0.Coords) (a2 : Memref sig .tc .smem S8 .i32) (h2) (a3 : Memref sig .tc .vmem S1024x768 .f32) (h3) (a4 h4 a5 h5 a6 h6 a7 h7 a8 h8 a9 h9 a10 h10 a11 h11) :
    cc0__moe_body (F := F) i a2 h2 a3 h3 a4 h4 a5 h5 a6 h6 a7 h7 a8 h8 a9 h9 a10 h10 a11 h11 = (do
      let v1 : Elt F .i32 ← smemLoad a2 (Rect.unit (s := S8) (k0_off1 i) S1.size (k0_off1_inb i)) numel1_S1 rfl
      head a3 a4 a5 a9 a10 a11 (k0_cond1 i = 1#1) fun _ => steps a6 a7 a8 a10 a11 v1) := by
  rw [cc0__moe_body_eq_skeleton]
  rfl

end Cert.MoeIdeal.Hand

end
-- ==== Proof.MoeLayer.lean ====
/- The expert feed-forward call of either layer: the calls of the two layers differ in the first component of the two
   weights' block indices, the layer. Here the call is stated for a layer `l`, so that its run is proved once. -/
module

public import proofs.«01_k».proof.Proof.MoeChunk
public import Idealize.ShloMosaic.Lib.Pipeline.Kit

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL.Sem

variable {F : FTy → Type} [FloatOps F] (l : Fin 2)

/-- The first weights' block at a grid point: the layer, the point's expert, all rows, the point's half of the columns. -/
def pick3 (i : grid0.Coords) : Fin 4 → Nat := ![l.val, (BitVec.ofNat 32 (i 0).val).toNat, (0#32).toNat, (BitVec.ofNat 32 (i 1).val).toNat]

/-- The second weights' block at a grid point: the layer, the point's expert, the point's half of the rows, all columns. -/
def pick5 (i : grid0.Coords) : Fin 4 → Nat := ![l.val, (BitVec.ofNat 32 (i 0).val).toNat, (BitVec.ofNat 32 (i 1).val).toNat, (0#32).toNat]

/-- The windows' block indices. -/
abbrev pick (_ : pre0.Contents (Elt F)) : (w : Fin 8) → grid0.Coords → Fin (spec0 w).shape.rank → Nat
  | 0 => cc0_transform_0 | 1 => cc0_transform_1 | 2 => cc0_transform_2 | 3 => pick3 l | 4 => cc0_transform_4 | 5 => pick5 l
  | 6 => cc0_transform_6 | 7 => cc0_transform_7 | ⟨_ + 8, h⟩ => absurd h (Nat.not_lt.2 (Nat.le_add_left _ _))

/-- The block indices depend on no grid axis they are not said to read. -/
theorem pick_reads (pf : pre0.Contents (Elt F)) : ∀ w (i i' : grid0.Coords), (∀ a, (spec0 w).reads a = true → i a = i' a) → pick l pf w i = pick l pf w i'
  | 0 => hreads0_0 | 1 => hreads0_1 | 2 => hreads0_2
  | 3 => fun i i' h => by show pick3 l i = pick3 l i'; unfold pick3; rw [h 0 rfl, h 1 rfl]
  | 4 => hreads0_4
  | 5 => fun i i' h => by show pick5 l i = pick5 l i'; unfold pick5; rw [h 0 rfl, h 1 rfl]
  | 6 => hreads0_6 | 7 => hreads0_7 | ⟨_ + 8, h⟩ => absurd h (Nat.not_lt.2 (Nat.le_add_left _ _))

/-- Every block lies inside its array. -/
theorem pick_inb (pf : pre0.Contents (Elt F)) (_ : ok0 pf) : ∀ w (i : grid0.Coords) a, (pick l pf w i a + 1) * (spec0 w).size a ≤ (spec0 w).shape.size a
  | 0 => hinb0_0 | 1 => hinb0_1 | 2 => hinb0_2
  | 3 => fun i (a : Fin 4) => match a with
    | 0 => by show (l.val + 1) * 1 ≤ 2; omega
    | 1 => hinb0_3 i 1 | 2 => hinb0_3 i 2 | 3 => hinb0_3 i 3
  | 4 => hinb0_4
  | 5 => fun i (a : Fin 4) => match a with
    | 0 => by show (l.val + 1) * 1 ≤ 2; omega
    | 1 => hinb0_5 i 1 | 2 => hinb0_5 i 2 | 3 => hinb0_5 i 3
  | 6 => hinb0_6 | 7 => hinb0_7 | ⟨_ + 8, h⟩ => absurd h (Nat.not_lt.2 (Nat.le_add_left _ _))

/-- Every window's elements are whole words. -/
theorem pick_words (pf : pre0.Contents (Elt F)) (hok : ok0 pf) : ∀ w (i : grid0.Coords), (spec0 w).elt.bits = 32 ∨
    (Rect.block (spec0 w).size (pick l pf w i) (pick_inb l pf hok w i)).WholeWords (spec0 w).elt.packing
  | 0 => fun _ => .inl rfl | 1 => fun _ => .inl rfl | 2 => fun _ => .inl rfl | 3 => fun _ => .inl rfl | 4 => fun _ => .inl rfl | 5 => fun _ => .inl rfl
  | 6 => fun _ => .inl rfl | 7 => fun _ => .inl rfl | ⟨_ + 8, h⟩ => absurd h (Nat.not_lt.2 (Nat.le_add_left _ _))

/-- Layer `l`'s call, with its table of counts. -/
abbrev pcfgL : Pipeline.PCfg sig Λ₀ (Elt F) :=
  Pipeline.PCfg.ofSpecs pre0 grid0 hrank0 (fun _ => grid0.bound) (fun _ _ _ => rfl)
    8 spec0 hcount0 harr0 (pick l) (pick_reads l) ok0 (pick_inb l) (pick_words l) 0 (fun _ _ t s => (t, s)) (fun pf => idle0 pf)

/-- The calls of the program: the one. -/
abbrev pcfgsL : Fin 1 → Pipeline.PCfg sig Λ₀ (Elt F) := fun _ => pcfgL l

/-- What the launch needs of the call's layout: none of it depends on the layer. -/
theorem launchL : Pipeline.PLaunchFacts (nD := nD) (τ := τ) (pcfgsL (F := F) l) 0 :=
  ⟨fun a => Pipeline.cellOf_injective_of_table (Pipeline.pin (pcfgsL (F := F) l) a) semTab
      (fun | 0 => rfl | ⟨_ + 1, h⟩ => absurd h (Nat.not_lt.2 (Nat.le_add_left _ _))) semsDistinct semsDisjoint,
    winFacts0, preFacts0, block_pos0, arr_whole0, stage_whole0⟩

/-- The bodies of layer `l`'s program. -/
def defsL : Defs nD τ sig (Elt F) (Pipeline.Sig Λ₀ (Fin 1) fun p => (pcfgsL (F := F) l p).Adm) := Pipeline.defs (pcfgsL l) defs₀

/-- Layer `l`'s program: the host's reshapes and the call. -/
def mainL : Dev nD → Prog (TpuEff nD τ sig (Elt F) (Pipeline.Sig Λ₀ (Fin 1) fun p => (pcfgsL (F := F) l p).Adm) .tc) PUnit := fun _ =>
  Pipeline.chain [StableHlo.seq hostOps0, Prog.lift (.customCall (Pipeline.entry 0) ())]

end Cert.MoeIdeal.Hand

end
-- ==== Proof.MoeFrame.lean ====
/- The expert feed-forward call of either layer: its run. What every grid point leaves in the output block and in the scratch buffer is
   named (even points start an expert's block, odd points finish it), so the run's final output array is known. -/
module

public import proofs.«01_k».proof.Proof.MoeLayer
public import Idealize.ShloMosaic.Lib.Pipeline.Kit
public import Idealize.ShloMosaic.Lib.WordCmp
public import Idealize.ShloMosaic.Lib.Claim

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (l : Fin 2) (m : (ℓ : Loc nD τ sig) → Buf (Elt F) ℓ) (ρ : Dev nD → PrngReg)

/-! ## The program up to the call -/

/-- The buffers of core `c` when the call is entered. -/
abbrev V (c : Dev nD) (b : Ref sig .tc) : Buf (Elt F) ((c : Thread nD τ).loc b) := StableHlo.after hostOps0 (fun b => m (c, b)) b

/-- The host operations before the call allocate nothing. -/
theorem hostOps0_fresh : (hostOps0 : List (HloOp τ sig (Elt F))).Forall fun op => op.fresh = ∅ := by
  simp only [List.Forall]; repeat' constructor

set_option maxHeartbeats 800000 in
/-- The program is its host operations followed by the call. -/
theorem hmain (𝒱₀ : Variants) : Pipeline.HMainP (Ix := Unit) (Name := ℕ) (U := UR sig nD τ) (Lvl := ℕ) (pcfgsL l) 0 defs₀ 𝒱₀ m (mainL (F := F) l) (V m) :=
  Pipeline.hmainP_prefix (pcfgsL l) 0 defs₀ 𝒱₀ m (mainL l) hostOps0 hostOps0_sub hostOps0_fresh fun _ => rfl

/-- A buffer none of the host operations writes is found by the call as it was at launch. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1, StableHlo.devRef_ne_of_ne h2, StableHlo.devRef_ne_of_ne h3⟩))

/-! ## The table of counts -/

/-- The table of counts when the call is entered. -/
def tbl : pre0.Contents (Elt F) := fun j => V m (0 : Dev nD) (pre0.ref j)

/-- Every core finds that table: there is one core. -/
theorem V_pre (c : Dev nD) (j : Fin 1) : V m c (pre0.ref j) = tbl m j := by
  obtain rfl : c = 0 := Subsingleton.elim _ _; rfl

/-- The table as admissible contents: no window's index reads it. -/
abbrev adm : (pcfgL (F := F) l).Adm := ⟨tbl m, by unfold pcfgL; exact trivial⟩
abbrev cfgM : Pipeline.Cfg sig Λ₀ := (pcfgL l).at (adm l m)

/-- The table as the body is handed it. -/
abbrev tbM : Memref sig .tc .smem S8 .i32 := Memref.whole main_arg0
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the call holds of the table is half of its buffer. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows -/

/-- Window `w`'s block at point `t`. -/
def iblk (c : Dev nD) (w : Fin (cfgM l m).W) (t : Fin (cfgM l m).N) : (((cfgM l m).win w).xblock ((cfgM l m).grid.coords t)).Idx → Elt F ((cfgM l m).win w).elt :=
  (((cfgM l m).win w).blk t).view.read (Elt F) (V m c (Pipeline.arrRef spec0 w))

/-- The first step's guard holds at the even points. -/
theorem hcond (t : Fin grid0.N) : k0_cond1 (grid0.coords t) = 1#1 ↔ t.val % 2 = 0 := by
  have ht : t.val < 16 := Nat.lt_of_lt_of_eq t.isLt N_0
  have e0 : (grid0.coords t 0).val = t.val / 2 % 8 := Pipeline.Grid.coords_val t 0 (by decide) rfl
  have e1 : (grid0.coords t 1).val = t.val / 1 % 2 := Pipeline.Grid.coords_val t 1 (by decide) rfl
  simp only [k0_cond1, e0, e1]
  word_cmp

/-- The output block is written back at the odd points. -/
theorem flush_7 (t : Fin (cfgM l m).N) : ((cfgM l m).win 7).flush t = true ↔ t.val % 2 = 1 :=
  (fun t => Pipeline.Window.flushOf_reads cc0_transform_7 reads0_7 hreads0_7 0 (by decide) (by decide) (Pipeline.Window.sep_of_coord cc0_transform_7 0 0 (fun _ => rfl) (by decide)) (P := 2) (m := 1) (by decide) rfl t : ∀ t : Fin grid0.N, Pipeline.Window.flushOf grid0 true cc0_transform_7 t = true ↔ t.val % 2 = 1) t

/-- At an even point the output window is not idle. -/
theorem live_7 (t : Fin (cfgM l m).N) (h : t.val % 2 = 0) : (cfgM l m).idle 7 ((cfgM l m).grid.coords t) = false := by
  have e : (k0_cond1 (grid0.coords t) == 1#1) = true := by rw [(hcond t).mpr h]; rfl
  show idle0 (tbl m) 7 (grid0.coords t) = false
  unfold idle0
  show (!(k0_cond1 (grid0.coords t) == 1#1) && _ && _ && _ && _ && _ && _ && _ && _) = false
  rw [e]; rfl

/-- The staging memrefs of point `t`. -/
abbrev ms_0 (t : Fin (cfgM l m).N) : Memref sig .tc .vmem S1024x768 .f32 := spec0_0.stage ((cfgM l m).slots t 0)
abbrev ms_1 (t : Fin (cfgM l m).N) : Memref sig .tc .vmem S1x1x768 .f32 := spec0_1.stage ((cfgM l m).slots t 1)
abbrev ms_2 (t : Fin (cfgM l m).N) : Memref sig .tc .vmem S1x1x768 .f32 := spec0_2.stage ((cfgM l m).slots t 2)
abbrev ms_3 (t : Fin (cfgM l m).N) : Memref sig .tc .vmem S1x1x768x1536 .f32 := spec0_3.stage ((cfgM l m).slots t 3)
abbrev ms_4 (t : Fin (cfgM l m).N) : Memref sig .tc .vmem S1x1x1536 .f32 := spec0_4.stage ((cfgM l m).slots t 4)
abbrev ms_5 (t : Fin (cfgM l m).N) : Memref sig .tc .vmem S1x1x1536x768 .f32 := spec0_5.stage ((cfgM l m).slots t 5)
abbrev ms_6 (t : Fin (cfgM l m).N) : Memref sig .tc .vmem S1x1x768 .f32 := spec0_6.stage ((cfgM l m).slots t 6)
abbrev ms_7 (t : Fin (cfgM l m).N) : Memref sig .tc .vmem S1024x768 .f32 := spec0_7.stage ((cfgM l m).slots t 7)

/-- The scratch buffer of the normalized tokens. -/
abbrev scM : Memref sig .tc .vmem S1024x768 .f32 := Memref.whole cc0_scratch0

/-- The call's own buffers: the scratch buffer at anything and the generator's register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the points leave -/

/-- The count the body reads from the table at point `t`. -/
def cnt (c : Dev nD) (i : grid0.Coords) (f : TbBuf (F := F) c tbM) : Elt F .i32 :=
  View.readAt (Elt F) tbM.view (Rect.unit (s := S8) (k0_off1 i) S1.size (k0_off1_inb i)).toLoadRect f
    (Shape.Idx.first (s := S1) (by rw [numel1_S1]; exact Nat.one_pos))

/-- The body's load of its expert's count, followed by the rest `J`. -/
theorem load_wp (c : Dev nD) (i : grid0.Coords) (f : TbBuf (F := F) c tbM) (J : Elt F .i32 → Pg (F := F)) (E : Set ℕ) (K : PUnit → sProp 𝕄) :
    iprop(tbPt c tbM f ∗ (tbPt c tbM f -∗ wp frame (wpE (defs₀ (F := F)) Variants.none c none) E (J (cnt c i f)) K))
    ⊢ wp frame (wpE (defs₀ (F := F)) Variants.none c none) E (smemLoad tbM (Rect.unit (s := S8) (k0_off1 i) S1.size (k0_off1_inb i)) numel1_S1 rfl >>= J) K := by
  iintro ⟨H, Hk⟩
  sl_exec
  iapply Hk
  iexact H

/-- An even point: the block is started, then the point's expert's half is added over the filled rows. -/
theorem point_even (c : Dev nD) (i : grid0.Coords) (hC : k0_cond1 i = 1#1) {a3 : Memref sig .tc .vmem S1024x768 .f32} (h3 : a3.IsWhole) {a4 : Memref sig .tc .vmem S1x1x768 .f32} (h4 : a4.IsWhole)
    {a5 : Memref sig .tc .vmem S1x1x768 .f32} (h5 : a5.IsWhole) {a6 : Memref sig .tc .vmem S1x1x768x1536 .f32} (h6 : a6.IsWhole) {a7 : Memref sig .tc .vmem S1x1x1536 .f32} (h7 : a7.IsWhole)
    {a8 : Memref sig .tc .vmem S1x1x1536x768 .f32} (h8 : a8.IsWhole) {a9 : Memref sig .tc .vmem S1x1x768 .f32} (h9 : a9.IsWhole)
    {a10 : Memref sig .tc .vmem S1024x768 .f32} (h10 : a10.IsWhole) {a11 : Memref sig .tc .vmem S1024x768 .f32} (h11 : a11.IsWhole)
    (f : TbBuf (F := F) c tbM) (x3 : Vec F S1024x768 .f32) (x4 x5 : Vec F S1x1x768 .f32) (x6 : Vec F S1x1x768x1536 .f32) (x7 : Vec F S1x1x1536 .f32) (x8 : Vec F S1x1x1536x768 .f32)
    (x9 : Vec F S1x1x768 .f32) (E : Set ℕ) (K : PUnit → sProp 𝕄) :
    iprop(owns (c : Thread nD τ) a3 fullShare x3 ∗ owns (c : Thread nD τ) a4 fullShare x4 ∗ owns (c : Thread nD τ) a5 fullShare x5
      ∗ owns (c : Thread nD τ) a6 fullShare x6 ∗ owns (c : Thread nD τ) a7 fullShare x7 ∗ owns (c : Thread nD τ) a8 fullShare x8 ∗ owns (c : Thread nD τ) a9 fullShare x9
      ∗ (∃ d, owns (c : Thread nD τ) a10 fullShare d) ∗ (∃ d, owns (c : Thread nD τ) a11 fullShare d) ∗ tbPt c tbM f
      ∗ (iprop(owns (c : Thread nD τ) a3 fullShare x3 ∗ owns (c : Thread nD τ) a4 fullShare x4 ∗ owns (c : Thread nD τ) a5 fullShare x5
          ∗ owns (c : Thread nD τ) a6 fullShare x6 ∗ owns (c : Thread nD τ) a7 fullShare x7 ∗ owns (c : Thread nD τ) a8 fullShare x8 ∗ owns (c : Thread nD τ) a9 fullShare x9
          ∗ owns (c : Thread nD τ) a10 fullShare (upds (cnt c i f) x6 x7 x8 (k0_pay1 x3 x4 x5) (k0_pay2 x3 x9))
          ∗ owns (c : Thread nD τ) a11 fullShare (k0_pay1 x3 x4 x5) ∗ tbPt c tbM f) -∗ K ⟨⟩))
    ⊢ wp frame (wpE (defs₀ (F := F)) Variants.none c none) E (cc0__moe_body i tbM (Memref.isWhole_whole _) a3 h3 a4 h4 a5 h5 a6 h6 a7 h7 a8 h8 a9 h9 a10 h10 a11 h11) K := by
  rw [body_eq]
  iintro ⟨H3, H4, H5, H6, H7, H8, H9, H10, H11, HT, Hk⟩
  iapply (load_wp c i f (fun v1 => head a3 a4 a5 a9 a10 a11 (k0_cond1 i = 1#1) fun _ => steps a6 a7 a8 a10 a11 v1) E K)
  isplitl [HT]; · iexact HT
  iintro HT
  iapply (head_wp c h3 h4 h5 h9 h10 h11 (k0_cond1 i = 1#1) hC (fun _ => steps a6 a7 a8 a10 a11 (cnt c i f)) x3 x4 x5 x9 E K)
  isplitl [H3]; · iexact H3
  isplitl [H4]; · iexact H4
  isplitl [H5]; · iexact H5
  isplitl [H9]; · iexact H9
  isplitl [H10]; · iexact H10
  isplitl [H11]; · iexact H11
  iintro ⟨H3, H4, H5, H9, H10, H11⟩
  iapply (steps_wp c h6 h7 h8 h10 h11 (cnt c i f) x6 x7 x8 _ _ E K)
  isplitl [H6]; · iexact H6
  isplitl [H7]; · iexact H7
  isplitl [H8]; · iexact H8
  isplitl [H10]; · iexact H10
  isplitl [H11]; · iexact H11
  iintro ⟨H6, H7, H8, H10, H11⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HT

/-- An odd point: the point's expert's other half is added over the filled rows, the output block and the scratch
    buffer as the point before left them. -/
theorem point_odd (c : Dev nD) (i : grid0.Coords) (hC : ¬k0_cond1 i = 1#1) {a3 : Memref sig .tc .vmem S1024x768 .f32} (h3 : a3.IsWhole) {a4 : Memref sig .tc .vmem S1x1x768 .f32} (h4 : a4.IsWhole)
    {a5 : Memref sig .tc .vmem S1x1x768 .f32} (h5 : a5.IsWhole) {a6 : Memref sig .tc .vmem S1x1x768x1536 .f32} (h6 : a6.IsWhole) {a7 : Memref sig .tc .vmem S1x1x1536 .f32} (h7 : a7.IsWhole)
    {a8 : Memref sig .tc .vmem S1x1x1536x768 .f32} (h8 : a8.IsWhole) {a9 : Memref sig .tc .vmem S1x1x768 .f32} (h9 : a9.IsWhole)
    {a10 : Memref sig .tc .vmem S1024x768 .f32} (h10 : a10.IsWhole) {a11 : Memref sig .tc .vmem S1024x768 .f32} (h11 : a11.IsWhole)
    (f : TbBuf (F := F) c tbM) (x6 : Vec F S1x1x768x1536 .f32) (x7 : Vec F S1x1x1536 .f32) (x8 : Vec F S1x1x1536x768 .f32)
    (O L : Vec F S1024x768 .f32) (E : Set ℕ) (K : PUnit → sProp 𝕄) :
    iprop(owns (c : Thread nD τ) a6 fullShare x6 ∗ owns (c : Thread nD τ) a7 fullShare x7 ∗ owns (c : Thread nD τ) a8 fullShare x8
      ∗ owns (c : Thread nD τ) a10 fullShare O ∗ owns (c : Thread nD τ) a11 fullShare L ∗ tbPt c tbM f
      ∗ (iprop(owns (c : Thread nD τ) a6 fullShare x6 ∗ owns (c : Thread nD τ) a7 fullShare x7 ∗ owns (c : Thread nD τ) a8 fullShare x8
          ∗ owns (c : Thread nD τ) a10 fullShare (upds (cnt c i f) x6 x7 x8 L O)
          ∗ owns (c : Thread nD τ) a11 fullShare L ∗ tbPt c tbM f) -∗ K ⟨⟩))
    ⊢ wp frame (wpE (defs₀ (F := F)) Variants.none c none) E (cc0__moe_body i tbM (Memref.isWhole_whole _) a3 h3 a4 h4 a5 h5 a6 h6 a7 h7 a8 h8 a9 h9 a10 h10 a11 h11) K := by
  rw [body_eq]
  iintro ⟨H6, H7, H8, H10, H11, HT, Hk⟩
  iapply (load_wp c i f (fun v1 => head a3 a4 a5 a9 a10 a11 (k0_cond1 i = 1#1) fun _ => steps a6 a7 a8 a10 a11 v1) E K)
  isplitl [HT]; · iexact HT
  iintro HT
  rw [head_neg _ hC]
  iapply (steps_wp c h6 h7 h8 h10 h11 (cnt c i f) x6 x7 x8 O L E K)
  isplitl [H6]; · iexact H6
  isplitl [H7]; · iexact H7
  isplitl [H8]; · iexact H8
  isplitl [H10]; · iexact H10
  isplitl [H11]; · iexact H11
  iintro ⟨H6, H7, H8, H10, H11⟩
  iapply Hk
  isplitl [H6]; · iexact H6
  isplitl [H7]; · iexact H7
  isplitl [H8]; · iexact H8
  isplitl [H10]; · iexact H10
  isplitl [H11]; · iexact H11
  iexact HT

/-- The point of the same expert's first half: `t` itself when `t` is even. -/
def fst (t : Fin (cfgM l m).N) : Fin (cfgM l m).N := ⟨t.val - t.val % 2, Nat.lt_of_le_of_lt (Nat.sub_le _ _) t.isLt⟩

theorem fst_even (t : Fin (cfgM l m).N) (h : t.val % 2 = 0) : fst l m t = t := Fin.ext (by show t.val - t.val % 2 = t.val; omega)

/-- The normalized tokens the scratch buffer holds after point `t`. -/
def lnB (c : Dev nD) (t : Fin (cfgM l m).N) : Vec F S1024x768 .f32 :=
  k0_pay1 (iblk l m c 0 (fst l m t)) (iblk l m c 1 (fst l m t)) (iblk l m c 2 (fst l m t))

/-- The output block after the first half of `t`'s expert. -/
def evenOut (c : Dev nD) (t : Fin (cfgM l m).N) : Vec F S1024x768 .f32 :=
  upds (cnt c (grid0.coords (fst l m t)) (tbl m 0)) (iblk l m c 3 (fst l m t)) (iblk l m c 4 (fst l m t)) (iblk l m c 5 (fst l m t)) (lnB l m c t)
    (k0_pay2 (iblk l m c 0 (fst l m t)) (iblk l m c 6 (fst l m t)))

/-- The output block after point `t`. -/
def outB (c : Dev nD) (t : Fin (cfgM l m).N) : Vec F S1024x768 .f32 :=
  if t.val % 2 = 0 then evenOut l m c t
  else upds (cnt c (grid0.coords t) (tbl m 0)) (iblk l m c 3 t) (iblk l m c 4 t) (iblk l m c 5 t) (lnB l m c t) (evenOut l m c t)

theorem fst_odd (t : Fin (cfgM l m).N) (h : ¬t.val % 2 = 0) :
    fst l m ⟨t.val - 1, Nat.lt_of_le_of_lt (Nat.sub_le _ _) t.isLt⟩ = fst l m t :=
  Fin.ext (by show t.val - 1 - (t.val - 1) % 2 = t.val - t.val % 2; omega)

/-! ## The run's data -/

/-- What the call's own buffers hold before point `n`: between an expert's two points the scratch buffer holds the
    expert's normalized tokens; otherwise it holds anything. -/
def PhiS (c : Dev nD) (n : ℕ) (hn : n ≤ (cfgM l m).N) : sProp 𝕄 :=
  if h : n % 2 = 1 then
    iprop(owns (c : Thread nD τ) scM fullShare (lnB l m c ⟨n - 1, by omega⟩) ∗ (∃ r, prngReg c r))
  else Pipeline.ΦA spec0 c

/-- The run's data: every input's buffer stays at its block, the output's holds `outB`. -/
def dats (_ : Fin 1) (c : Dev nD) : Dat τ (Elt F) Unit ℕ (UR sig nD τ) ℕ (cfgM l m) c where
  A w := V m c (Pipeline.arrRef spec0 w)
  after w t := match w with
    | ⟨0, _⟩ => iblk l m c 0 t
    | ⟨1, _⟩ => iblk l m c 1 t
    | ⟨2, _⟩ => iblk l m c 2 t
    | ⟨3, _⟩ => iblk l m c 3 t
    | ⟨4, _⟩ => iblk l m c 4 t
    | ⟨5, _⟩ => iblk l m c 5 t
    | ⟨6, _⟩ => iblk l m c 6 t
    | ⟨7, _⟩ => outB l m c t
  Φ t := iprop(PhiS l m c t.val (Nat.le_of_lt_succ t.isLt) ∗ Pipeline.ΦT pre0 (tbl m) c)
  q _ := fullShare
  owed _ := 0

theorem A_eq (c : Dev nD) (w : Fin (cfgM l m).W) : (dats l m 0 c).A w = V m c (Pipeline.arrRef spec0 w) := by
  dsimp only [dats]

/-- An input's buffer holds its block after every point. -/
theorem after_in (c : Dev nD) (w : Fin (cfgM l m).W) (hw : w.val < 7) (t : Fin (cfgM l m).N) : (dats l m 0 c).after w t = iblk l m c w t := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl

theorem after_7 (c : Dev nD) (t : Fin (cfgM l m).N) : (dats l m 0 c).after 7 t = outB l m c t := rfl

/-- An input's buffer holds its block before every point. -/
theorem before_in (c : Dev nD) (w : Fin (cfgM l m).W) (hw : w.val < 7) (t : Fin (cfgM l m).N) (d) : (dats l m 0 c).before w t d = iblk l m c w t := by
  match w, hw with
  | ⟨0, hlt⟩, _ =>
    exact ((dats l m 0 c).before_in_eq_fetched ⟨0, hlt⟩ rfl (fun _ => rfl) (fun _ _ _ => rfl) (fun _ => rfl) t d).trans rfl
  | ⟨1, hlt⟩, _ =>
    exact ((dats l m 0 c).before_in_eq_fetched ⟨1, hlt⟩ rfl (fun _ => rfl) (fun _ _ _ => rfl) (fun _ => rfl) t d).trans rfl
  | ⟨2, hlt⟩, _ =>
    exact ((dats l m 0 c).before_in_eq_fetched ⟨2, hlt⟩ rfl (fun _ => rfl) (fun _ _ _ => rfl) (fun _ => rfl) t d).trans rfl
  | ⟨3, hlt⟩, _ =>
    exact ((dats l m 0 c).before_in_eq_fetched ⟨3, hlt⟩ rfl (fun _ => rfl) (fun _ _ _ => rfl) (fun _ => rfl) t d).trans rfl
  | ⟨4, hlt⟩, _ =>
    exact ((dats l m 0 c).before_in_eq_fetched ⟨4, hlt⟩ rfl (fun _ => rfl) (fun _ _ _ => rfl) (fun _ => rfl) t d).trans rfl
  | ⟨5, hlt⟩, _ =>
    exact ((dats l m 0 c).before_in_eq_fetched ⟨5, hlt⟩ rfl (fun _ => rfl) (fun _ _ _ => rfl) (fun _ => rfl) t d).trans rfl
  | ⟨6, hlt⟩, _ =>
    exact ((dats l m 0 c).before_in_eq_fetched ⟨6, hlt⟩ rfl (fun _ => rfl) (fun _ _ _ => rfl) (fun _ => rfl) t d).trans rfl

/-- Before an odd point the output's buffer holds what the expert's first point left. -/
theorem before_7 (c : Dev nD) (t : Fin (cfgM l m).N) (h : ¬t.val % 2 = 0) (d) : (dats l m 0 c).before 7 t d = evenOut l m c t := by
  have e : (t.val - 1) % 2 = 0 := by omega
  rw [Dat.before_of_pos _ 7 t (by omega) (((cfgM l m).win 7).fetch_out rfl t),
    if_neg (fun hf => by have := (flush_7 l m _).mp hf; dsimp only at this; omega)]
  unfold Dat.left
  rw [live_7 l m ⟨t.val - 1, _⟩ e]
  show outB l m c ⟨t.val - 1, _⟩ = _
  unfold outB
  rw [if_pos e]
  unfold evenOut lnB
  rw [fst_odd l m t h]

/-- Whatever the output window's idle table says, a point leaves `outB` in its buffer. -/
theorem leaves_7 (c : Dev nD) (t : Fin (cfgM l m).N) :
    (dats l m 0 c).leavesExact 7 t = owns (c : Thread nD τ) (ms_7 l m t) fullShare (outB l m c t) := by
  unfold Dat.leavesExact
  by_cases h : t.val % 2 = 0
  · rw [live_7 l m t h]
    rfl
  · have hf : ((cfgM l m).win 7).flush t = true := (flush_7 l m t).mpr (by omega)
    cases (cfgM l m).idle 7 ((cfgM l m).grid.coords t)
    · rfl
    · rw [hf]
      rfl

/-- A point leaves every input's block in its buffer. -/
theorem leaves_in (c : Dev nD) (w : Fin (cfgM l m).W) (hw : w.val < 7) (t : Fin (cfgM l m).N) :
    (dats l m 0 c).leavesExact w t = owns (c : Thread nD τ) (((cfgM l m).win w).stage ((cfgM l m).slots t w)) fullShare (iblk l m c w t) := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl

theorem Phi_at (c : Dev nD) (t : Fin ((cfgM l m).N + 1)) :
    (dats l m 0 c).Φ t = iprop(PhiS l m c t.val (Nat.le_of_lt_succ t.isLt) ∗ Pipeline.ΦT pre0 (tbl m) c) := rfl

/-! ## The body at a point -/

/-- What the body is called with at point `t`. -/
def bodyPre (c : Dev nD) (t : Fin (cfgM l m).N) : sProp 𝕄 :=
  iprop((dats l m 0 c).Φ t.castSucc ∗ (dats l m 0 c).owesAt () t.castSucc
    ∗ (∃ d, owns (c : Thread nD τ) (ms_0 l m t) fullShare ((dats l m 0 c).before 0 t d))
    ∗ (∃ d, owns (c : Thread nD τ) (ms_1 l m t) fullShare ((dats l m 0 c).before 1 t d))
    ∗ (∃ d, owns (c : Thread nD τ) (ms_2 l m t) fullShare ((dats l m 0 c).before 2 t d))
    ∗ (∃ d, owns (c : Thread nD τ) (ms_3 l m t) fullShare ((dats l m 0 c).before 3 t d))
    ∗ (∃ d, owns (c : Thread nD τ) (ms_4 l m t) fullShare ((dats l m 0 c).before 4 t d))
    ∗ (∃ d, owns (c : Thread nD τ) (ms_5 l m t) fullShare ((dats l m 0 c).before 5 t d))
    ∗ (∃ d, owns (c : Thread nD τ) (ms_6 l m t) fullShare ((dats l m 0 c).before 6 t d))
    ∗ (∃ d, owns (c : Thread nD τ) (ms_7 l m t) fullShare ((dats l m 0 c).before 7 t d)))

/-- What the body returns at point `t`. -/
def bodyPost (c : Dev nD) (t : Fin (cfgM l m).N) : sProp 𝕄 :=
  iprop((dats l m 0 c).Φ t.succ ∗ (dats l m 0 c).owesAt () t.succ
    ∗ (dats l m 0 c).leavesExact 0 t
    ∗ (dats l m 0 c).leavesExact 1 t
    ∗ (dats l m 0 c).leavesExact 2 t
    ∗ (dats l m 0 c).leavesExact 3 t
    ∗ (dats l m 0 c).leavesExact 4 t
    ∗ (dats l m 0 c).leavesExact 5 t
    ∗ (dats l m 0 c).leavesExact 6 t
    ∗ (dats l m 0 c).leavesExact 7 t)

/-- The body as the call runs it at point `t`. -/
abbrev bodyAt (t : Fin (cfgM l m).N) : Prog (TpuEff nD τ sig (Elt F) Λ₀ .tc) PUnit :=
  cc0__moe_body (grid0.coords t) tbM (Memref.isWhole_whole _) (ms_0 l m t) (hstage0_0 (((cfgM l m).slots t 0).cast nbuf0_0)) (ms_1 l m t) (hstage0_1 (((cfgM l m).slots t 1).cast nbuf0_1)) (ms_2 l m t) (hstage0_2 (((cfgM l m).slots t 2).cast nbuf0_2)) (ms_3 l m t) (hstage0_3 (((cfgM l m).slots t 3).cast nbuf0_3)) (ms_4 l m t) (hstage0_4 (((cfgM l m).slots t 4).cast nbuf0_4)) (ms_5 l m t) (hstage0_5 (((cfgM l m).slots t 5).cast nbuf0_5)) (ms_6 l m t) (hstage0_6 (((cfgM l m).slots t 6).cast nbuf0_6)) (ms_7 l m t) (hstage0_7 (((cfgM l m).slots t 7).cast nbuf0_7)) scM (Memref.isWhole_whole _)

set_option maxHeartbeats 1600000 in
/-- The body runs at every point, from what the data says before it to what the data says after it. -/
theorem sound_body (c : Dev nD) (t : Fin (cfgM l m).N) :
    bodyPre l m c t ⊢ wp frame (wpE (defs₀ (F := F)) Variants.none c none) Set.univ (bodyAt l m t) (fun _ => bodyPost l m c t) := by
  unfold bodyPre bodyPost bodyAt
  rw [show (dats l m 0 c).owesAt () t.succ = (dats l m 0 c).owesAt () t.castSucc from rfl]
  rw [Phi_at, Phi_at, PhiT_eq, leaves_7, leaves_in l m c 0 (show (0 : ℕ) < 7 by decide), leaves_in l m c 1 (show (1 : ℕ) < 7 by decide), leaves_in l m c 2 (show (2 : ℕ) < 7 by decide), leaves_in l m c 3 (show (3 : ℕ) < 7 by decide), leaves_in l m c 4 (show (4 : ℕ) < 7 by decide), leaves_in l m c 5 (show (5 : ℕ) < 7 by decide), leaves_in l m c 6 (show (6 : ℕ) < 7 by decide)]
  simp only [before_in l m c 0 (show (0 : ℕ) < 7 by decide), before_in l m c 1 (show (1 : ℕ) < 7 by decide), before_in l m c 2 (show (2 : ℕ) < 7 by decide), before_in l m c 3 (show (3 : ℕ) < 7 by decide), before_in l m c 4 (show (4 : ℕ) < 7 by decide), before_in l m c 5 (show (5 : ℕ) < 7 by decide), before_in l m c 6 (show (6 : ℕ) < 7 by decide)]
  have hN : t.val < 16 := lt_of_lt_of_eq t.isLt (show (cfgM l m).N = 16 from N_0)
  by_cases h : t.val % 2 = 0
  · rw [show PhiS l m c t.castSucc.val _ = Pipeline.ΦA spec0 c from dif_neg (by show ¬t.val % 2 = 1; omega),
      show PhiS l m c t.succ.val _ = iprop(owns (c : Thread nD τ) scM fullShare (lnB l m c t) ∗ (∃ r, prngReg c r)) from dif_pos (by show (t.val + 1) % 2 = 1; omega),
      PhiA_eq]
    rw [show outB l m c t = evenOut l m c t from if_pos h]
    unfold evenOut lnB
    rw [fst_even l m t h]
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (point_even c (grid0.coords t) ((hcond t).mpr h) _ _ _ _ _ _ _ _ _ (tbl m 0) (iblk l m c 0 t) (iblk l m c 1 t) (iblk l m c 2 t) (iblk l m c 3 t) (iblk l m c 4 t) (iblk l m c 5 t) (iblk l m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    isplitl [HT]; · iexact HT
    iintro ⟨H0, H1, H2, H3, H4, H5, H6, H7, HS, HT⟩
    isplitl [HS Hg HT]
    · isplitl [HS Hg]
      · isplitl [HS]
        · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show PhiS l m c t.castSucc.val _ = iprop(owns (c : Thread nD τ) scM fullShare (lnB l m c ⟨t.val - 1, Nat.lt_of_le_of_lt (Nat.sub_le _ _) t.isLt⟩) ∗ (∃ r, prngReg c r)) from dif_pos (by show t.val % 2 = 1; omega),
      show PhiS l m c t.succ.val _ = Pipeline.ΦA spec0 c from dif_neg (by show ¬(t.val + 1) % 2 = 1; omega),
      PhiA_eq]
    simp only [before_7 l m c t h]
    rw [show outB l m c t = _ from if_neg h,
      show lnB l m c ⟨t.val - 1, Nat.lt_of_le_of_lt (Nat.sub_le _ _) t.isLt⟩ = lnB l m c t from by unfold lnB; rw [fst_odd l m t h]]
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (point_odd c (grid0.coords t) (fun hc => h ((hcond t).mp hc)) _ _ _ _ _ _ _ _ _ (tbl m 0) (iblk l m c 3 t) (iblk l m c 4 t) (iblk l m c 5 t) _ _ Set.univ _)
    isplitl [H3]; · iexact H3
    isplitl [H4]; · iexact H4
    isplitl [H5]; · iexact H5
    isplitl [H7]; · iexact H7
    isplitl [HS]; · iexact HS
    isplitl [HT]; · iexact HT
    iintro ⟨H3, H4, H5, H7, HS, HT⟩
    isplitl [HS Hg HT]
    · isplitl [HS Hg]
      · isplitl [HS]
        · iexists _; iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin (cfgM l m).N) :
    defs₀ (F := F) .tc (cfgM l m).body ((cfgM l m).bodyArgs t ((cfgM l m).slots t)) = bodyAt l m t := by
  unfold defs₀; rw [Defs.onTc_tc]

/-- The body meets the data at every point. -/
theorem body_obligation (c : Dev nD) : BodyObligation (dats (F := F) l m 0 c) (defs₀ (F := F)) Variants.none () Set.univ := fun t => by
  rw [bigSep_W0, bigSep_W0, defs₀_row l m]
  exact triple_restated (sound_body l m c t) rfl .rfl fun _ => .rfl

theorem hin (c : Dev nD) : iprop(Pipeline.ΦA spec0 c ∗ Pipeline.ΦT pre0 (tbl m) c) ⊢ (dats l m 0 c).Φ 0 := by
  rw [Phi_at, show PhiS l m c (0 : Fin ((cfgM l m).N + 1)).val _ = Pipeline.ΦA spec0 c from dif_neg (by show ¬0 % 2 = 1; omega)]

theorem hout (c : Dev nD) : (dats l m 0 c).Φ (Fin.last (cfgM l m).N) ⊢ Pipeline.ΦA spec0 c := by
  rw [Phi_at, show PhiS l m c (Fin.last (cfgM l m).N).val _ = Pipeline.ΦA spec0 c from
    dif_neg (by rw [Fin.val_last, show (cfgM l m).N = 16 from N_0]; omega)]
  iintro ⟨H, -⟩; iexact H

/-! ## The run -/

set_option backward.isDefEq.respectTransparency.types false in
/-- Every execution ends, with the arrays as the data says and every counter at zero. -/
theorem run_main : θ_run (defsL l) (onTc (τ := τ) (mainL (F := F) l)) (s₀ m ρ)
    (fun r => (Pipeline.FramePost (Pipeline.pin (pcfgsL l) fun _ => adm l m) (dats l m) 0 (V m)) r ∧ r.2.sem = fun _ => 0) :=
  Pipeline.θ_run_frameP_track (Q' := _) (pcfgsL l) (fun _ => adm l m) (dats l m) (0 : Fin 1) (launchL l) defs₀ Variants.none m ρ (mainL l)
    (hbody := fun c => (body_obligation l m c).loose) (hshare := fun c => (dats l m 0 c).share_full fun _ => rfl)
    (howed := fun _ _ => rfl) (V := V m) (hmain := hmain l m Variants.none) (hA := A_eq l m) (hpf := V_pre m) (hin := hin l m) (hout := hout l m)

/-- Every execution ends with the output array as the data says, the arguments unchanged. -/
theorem run_blocks : θ_run (defsL l) (onTc (τ := τ) (mainL (F := F) l)) ⟨m, fun _ => 0, ρ⟩ fun r => ∀ c : Dev nD,
      r.2.mem ((c.tc : Thread nD τ).loc main_v4) = (dats l m 0 c).arrAt 7 (cfgM l m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defsL l) _ _).mono (fun r hr c => by
    have h := hr.1
    exact ⟨(h c).1 7,
      ((h c).2 main_arg0 (by decide : main_arg0 ∈ Pipeline.restRefs sig spec0)).trans (V_kept m c main_arg0 (by decide) (by decide) (by decide) (by decide)),
      ((h c).1 0).trans (((dats l m 0 c).arrAt_in 0 rfl _).trans (V_kept m c main_arg1 (by decide) (by decide) (by decide) (by decide))),
      ((h c).2 main_arg2 (by decide : main_arg2 ∈ Pipeline.restRefs sig spec0)).trans (V_kept m c main_arg2 (by decide) (by decide) (by decide) (by decide)),
      ((h c).2 main_arg3 (by decide : main_arg3 ∈ Pipeline.restRefs sig spec0)).trans (V_kept m c main_arg3 (by decide) (by decide) (by decide) (by decide)),
      ((h c).1 3).trans (((dats l m 0 c).arrAt_in 3 rfl _).trans (V_kept m c main_arg4 (by decide) (by decide) (by decide) (by decide))),
      ((h c).2 main_arg5 (by decide : main_arg5 ∈ Pipeline.restRefs sig spec0)).trans (V_kept m c main_arg5 (by decide) (by decide) (by decide) (by decide)),
      ((h c).1 5).trans (((dats l m 0 c).arrAt_in 5 rfl _).trans (V_kept m c main_arg6 (by decide) (by decide) (by decide) (by decide))),
      ((h c).2 main_arg7 (by decide : main_arg7 ∈ Pipeline.restRefs sig spec0)).trans (V_kept m c main_arg7 (by decide) (by decide) (by decide) (by decide))⟩) (run_main l m ρ)

/-- Every execution ends with the arguments unchanged and every counter at zero. -/
theorem frame : θ_run (defsL l) (onTc (τ := τ) (mainL (F := F) l)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and ((θ_run (defsL l) _ _).mono (fun _ h c => (h c).2) (run_blocks l m ρ)) ((θ_run (defsL l) _ _).mono (fun _ h => h.2) (run_main l m ρ))

end Cert.MoeIdeal.Hand

end
-- ==== Proof.MoeValue.lean ====
/- The expert feed-forward call of either layer: its output, element by element, on the extended reals. On the rows below an expert's
   count the output is the reference's: layer normalization, two matrix products around the exact Gaussian error unit, a
   bias and the token itself. -/
module

public import proofs.«01_k».proof.Proof.MoeFrame
public import proofs.«01_k».proof.Proof.Scalar
public import Idealize.ShloMosaic.Lib.Pipeline.ValueKit
public import proofs.«01_k».proof.Proof.Gen.MoeRefIdeal.Read
public import proofs.«01_k».proof.Proof.Gen.MoeRefIdeal.Run
public import proofs.«01_k».proof.Proof.Gen.On_filled
public import proofs.«01_k».proof.Defs

@[expose] public section

set_option maxRecDepth 16384

noncomputable section

namespace Cert.MoeIdeal.Hand

open Cert.MoeIdeal Cert.MoeIdeal.Gen Cert.Scalar
open Idealize.ShloMosaic Idealize.ShloMosaic.TcCoe Idealize.ShloMosaic.Tactic
open Idealize.SL Idealize.SL.RA Idealize.SL.Sem

variable (l : Fin 2) (m : (ℓ : Loc nD τ sig) → Buf (Elt Ideal) ℓ) (ρ : Dev nD → PrngReg)

/-! ## The grid and the blocks -/

/-- There are sixteen points. -/
theorem lt16 (t : Fin grid0.N) : t.val < 16 := Nat.lt_of_lt_of_eq t.isLt N_0

/-- A point's first coordinate is its expert. -/
theorem co0 (t : Fin grid0.N) : (grid0.coords t 0).val = t.val / 2 := by
  have ht := lt16 t
  exact (Pipeline.Grid.coords_val t 0 (by decide) rfl : (grid0.coords t 0).val = t.val / 2 % 8).trans (by omega)

/-- Its second coordinate is the half of the inner columns it runs. -/
theorem co1 (t : Fin grid0.N) : (grid0.coords t 1).val = t.val % 2 :=
  (Pipeline.Grid.coords_val t 1 (by decide) rfl : (grid0.coords t 1).val = t.val / 1 % 2).trans (by omega)

/-- The word of the first coordinate. -/
theorem w0 (t : Fin grid0.N) : (BitVec.ofNat 32 (grid0.coords t 0).val).toNat = t.val / 2 := by
  have ht := lt16 t
  rw [co0, BitVec.toNat_ofNat, Nat.mod_eq_of_lt (by omega)]

/-- The word of the second coordinate. -/
theorem w1 (t : Fin grid0.N) : (BitVec.ofNat 32 (grid0.coords t 1).val).toNat = t.val % 2 := by
  have ht := lt16 t
  rw [co1, BitVec.toNat_ofNat, Nat.mod_eq_of_lt (by omega)]

/-- The expert of point `t`. -/
abbrev expert (t : Fin grid0.N) : Fin 8 := ⟨t.val / 2, by have := lt16 t; omega⟩

/-- Inner column `k` of point `t`'s half. -/
abbrev half (t : Fin grid0.N) (k : Fin 1536) : Fin 3072 := ⟨t.val % 2 * 1536 + k.val, by omega⟩

/-- Row `r` of point `t`'s expert. -/
abbrev row (t : Fin grid0.N) (r : Fin 1024) : Fin 8192 := ⟨t.val / 2 * 1024 + r.val, by have := lt16 t; omega⟩

/-- The input blocks at point `t`, at their literal shapes. -/
def bk0 (c : Dev nD) (t : Fin (cfgM l m).N) : Vec Ideal S1024x768 .f32 := iblk l m c 0 t
def bk1 (c : Dev nD) (t : Fin (cfgM l m).N) : Vec Ideal S1x1x768 .f32 := iblk l m c 1 t
def bk2 (c : Dev nD) (t : Fin (cfgM l m).N) : Vec Ideal S1x1x768 .f32 := iblk l m c 2 t
def bk3 (c : Dev nD) (t : Fin (cfgM l m).N) : Vec Ideal S1x1x768x1536 .f32 := iblk l m c 3 t
def bk4 (c : Dev nD) (t : Fin (cfgM l m).N) : Vec Ideal S1x1x1536 .f32 := iblk l m c 4 t
def bk5 (c : Dev nD) (t : Fin (cfgM l m).N) : Vec Ideal S1x1x1536x768 .f32 := iblk l m c 5 t
def bk6 (c : Dev nD) (t : Fin (cfgM l m).N) : Vec Ideal S1x1x768 .f32 := iblk l m c 6 t

/-- The tokens' block at point `t` is the expert's 1024 rows. -/
theorem bk0_at (c : Dev nD) (t : Fin (cfgM l m).N) (r : Fin 1024) (j : Fin 768) :
    bk0 l m c t (ix2 r j) = m ((c.tc : Thread nD τ).loc main_arg1) (ix2 (row t r) j) := by
  have e : (((cfgM l m).win 0).blk t).view.emb (ix2 r j) = (ix2 (row t r) j : S8192x768.Idx) :=
    funext fun (a : Fin 2) => Fin.ext <| (Pipeline.Window.rect_emb_val ((cfgM l m).win 0) t (ix2 r j) a).trans <|
      match a with
      | 0 => congrArg (fun x => x * 1024 + r.val) (w0 t)
      | 1 => Nat.zero_add _
  unfold bk0
  blk_simp [iblk]
  exact (congrArg (V m c main_arg1) e).trans (congrFun (V_kept m c main_arg1 (by decide) (by decide) (by decide) (by decide)) _)

/-- The host reshapes argument 2 for the call. -/
theorem V0 (c : Dev nD) : V m c main_v0 = shapeCast S8x1x768 (m ((c.tc : Thread nD τ).loc main_arg2)) shapeCasts_S8x768_S8x1x768 := by
  simp only [V, hostOps0, List.flatten_cons, List.flatten_nil, List.append_nil, List.cons_append, List.nil_append]
  after_results
  rfl

/-- The normalization's scale at point `t` is the expert's row. -/
theorem bk1_at (c : Dev nD) (t : Fin (cfgM l m).N) (j : Fin 768) :
    bk1 l m c t (ix3 0 0 j) = m ((c.tc : Thread nD τ).loc main_arg2) (ix2 (expert t) j) := by
  have e : (((cfgM l m).win 1).blk t).view.emb (ix3 0 0 j) = (ix3 (expert t) 0 j : S8x1x768.Idx) :=
    funext fun (a : Fin 3) => Fin.ext <| (Pipeline.Window.rect_emb_val ((cfgM l m).win 1) t (ix3 0 0 j) a).trans <|
      match a with
      | 0 => (congrArg (fun x => x * 1 + 0) (w0 t)).trans (Nat.mul_one _)
      | 1 => rfl
      | 2 => Nat.zero_add _
  unfold bk1
  blk_simp [iblk]
  refine (congrArg (V m c main_v0) e).trans ?_
  rw [V0]
  pointwise

/-- The host reshapes argument 3 for the call. -/
theorem V1 (c : Dev nD) : V m c main_v1 = shapeCast S8x1x768 (m ((c.tc : Thread nD τ).loc main_arg3)) shapeCasts_S8x768_S8x1x768 := by
  simp only [V, hostOps0, List.flatten_cons, List.flatten_nil, List.append_nil, List.cons_append, List.nil_append]
  after_results
  rfl

/-- The normalization's shift at point `t` is the expert's row. -/
theorem bk2_at (c : Dev nD) (t : Fin (cfgM l m).N) (j : Fin 768) :
    bk2 l m c t (ix3 0 0 j) = m ((c.tc : Thread nD τ).loc main_arg3) (ix2 (expert t) j) := by
  have e : (((cfgM l m).win 2).blk t).view.emb (ix3 0 0 j) = (ix3 (expert t) 0 j : S8x1x768.Idx) :=
    funext fun (a : Fin 3) => Fin.ext <| (Pipeline.Window.rect_emb_val ((cfgM l m).win 2) t (ix3 0 0 j) a).trans <|
      match a with
      | 0 => (congrArg (fun x => x * 1 + 0) (w0 t)).trans (Nat.mul_one _)
      | 1 => rfl
      | 2 => Nat.zero_add _
  unfold bk2
  blk_simp [iblk]
  refine (congrArg (V m c main_v1) e).trans ?_
  rw [V1]
  pointwise

/-- The first weights' block at point `t` is the expert's, the point's half of the inner columns. -/
theorem bk3_at (c : Dev nD) (t : Fin (cfgM l m).N) (i : Fin 768) (k : Fin 1536) :
    bk3 l m c t (ix4 0 0 i k) = m ((c.tc : Thread nD τ).loc main_arg4) (ix4 l (expert t) i (half t k)) := by
  have e : (((cfgM l m).win 3).blk t).view.emb (ix4 0 0 i k) = (ix4 l (expert t) i (half t k) : S2x8x768x3072.Idx) :=
    funext fun (a : Fin 4) => Fin.ext <| (Pipeline.Window.rect_emb_val ((cfgM l m).win 3) t (ix4 0 0 i k) a).trans <|
      match a with
      | 0 => (Nat.mul_one l.val : l.val * 1 + 0 = l.val)
      | 1 => (congrArg (fun x => x * 1 + 0) (w0 t)).trans (Nat.mul_one _)
      | 2 => Nat.zero_add _
      | 3 => congrArg (fun x => x * 1536 + k.val) (w1 t)
  unfold bk3
  blk_simp [iblk]
  exact (congrArg (V m c main_arg4) e).trans (congrFun (V_kept m c main_arg4 (by decide) (by decide) (by decide) (by decide)) _)

/-- The host reshapes argument 5 for the call. -/
theorem V2 (c : Dev nD) : V m c main_v2 = shapeCast S8x1x3072 (m ((c.tc : Thread nD τ).loc main_arg5)) shapeCasts_S8x3072_S8x1x3072 := by
  simp only [V, hostOps0, List.flatten_cons, List.flatten_nil, List.append_nil, List.cons_append, List.nil_append]
  after_results
  rfl

/-- The first bias at point `t` is the expert's, the point's half. -/
theorem bk4_at (c : Dev nD) (t : Fin (cfgM l m).N) (k : Fin 1536) :
    bk4 l m c t (ix3 0 0 k) = m ((c.tc : Thread nD τ).loc main_arg5) (ix2 (expert t) (half t k)) := by
  have e : (((cfgM l m).win 4).blk t).view.emb (ix3 0 0 k) = (ix3 (expert t) 0 (half t k) : S8x1x3072.Idx) :=
    funext fun (a : Fin 3) => Fin.ext <| (Pipeline.Window.rect_emb_val ((cfgM l m).win 4) t (ix3 0 0 k) a).trans <|
      match a with
      | 0 => (congrArg (fun x => x * 1 + 0) (w0 t)).trans (Nat.mul_one _)
      | 1 => rfl
      | 2 => congrArg (fun x => x * 1536 + k.val) (w1 t)
  unfold bk4
  blk_simp [iblk]
  refine (congrArg (V m c main_v2) e).trans ?_
  rw [V2]
  pointwise

/-- The second weights' block at point `t` is the expert's, the point's half of the inner rows. -/
theorem bk5_at (c : Dev nD) (t : Fin (cfgM l m).N) (k : Fin 1536) (j : Fin 768) :
    bk5 l m c t (ix4 0 0 k j) = m ((c.tc : Thread nD τ).loc main_arg6) (ix4 l (expert t) (half t k) j) := by
  have e : (((cfgM l m).win 5).blk t).view.emb (ix4 0 0 k j) = (ix4 l (expert t) (half t k) j : S2x8x3072x768.Idx) :=
    funext fun (a : Fin 4) => Fin.ext <| (Pipeline.Window.rect_emb_val ((cfgM l m).win 5) t (ix4 0 0 k j) a).trans <|
      match a with
      | 0 => (Nat.mul_one l.val : l.val * 1 + 0 = l.val)
      | 1 => (congrArg (fun x => x * 1 + 0) (w0 t)).trans (Nat.mul_one _)
      | 2 => congrArg (fun x => x * 1536 + k.val) (w1 t)
      | 3 => Nat.zero_add _
  unfold bk5
  blk_simp [iblk]
  exact (congrArg (V m c main_arg6) e).trans (congrFun (V_kept m c main_arg6 (by decide) (by decide) (by decide) (by decide)) _)

/-- The host reshapes argument 7 for the call. -/
theorem V3 (c : Dev nD) : V m c main_v3 = shapeCast S8x1x768 (m ((c.tc : Thread nD τ).loc main_arg7)) shapeCasts_S8x768_S8x1x768 := by
  simp only [V, hostOps0, List.flatten_cons, List.flatten_nil, List.append_nil, List.cons_append, List.nil_append]
  after_results
  rfl

/-- The second bias at point `t` is the expert's row. -/
theorem bk6_at (c : Dev nD) (t : Fin (cfgM l m).N) (j : Fin 768) :
    bk6 l m c t (ix3 0 0 j) = m ((c.tc : Thread nD τ).loc main_arg7) (ix2 (expert t) j) := by
  have e : (((cfgM l m).win 6).blk t).view.emb (ix3 0 0 j) = (ix3 (expert t) 0 j : S8x1x768.Idx) :=
    funext fun (a : Fin 3) => Fin.ext <| (Pipeline.Window.rect_emb_val ((cfgM l m).win 6) t (ix3 0 0 j) a).trans <|
      match a with
      | 0 => (congrArg (fun x => x * 1 + 0) (w0 t)).trans (Nat.mul_one _)
      | 1 => rfl
      | 2 => Nat.zero_add _
  unfold bk6
  blk_simp [iblk]
  refine (congrArg (V m c main_v3) e).trans ?_
  rw [V3]
  pointwise

/-- The output block at point `t` is the expert's 1024 rows. -/
theorem emb7 (t : Fin (cfgM l m).N) (r : Fin 1024) (j : Fin 768) :
    (((cfgM l m).win 7).blk t).view.emb (ix2 r j) = (ix2 (row t r) j : S8192x768.Idx) :=
  funext fun (a : Fin 2) => Fin.ext <| (Pipeline.Window.rect_emb_val ((cfgM l m).win 7) t (ix2 r j) a).trans <|
    match a with
    | 0 => congrArg (fun x => x * 1024 + r.val) (w0 t)
    | 1 => Nat.zero_add _

/-- The blocks written back cover the output. -/
theorem cov (i : S8192x768.Idx) : ∃ t : Fin (cfgM l m).N, ((cfgM l m).win 7).flush t = true ∧ i ∈ (((cfgM l m).win 7).blk t).view.set := by
  obtain ⟨R, j, rfl⟩ : ∃ (R : Fin 8192) (j : Fin 768), i = ix2 R j := ⟨i 0, i 1, eq_ix2 i⟩
  let t : Fin (cfgM l m).N := ⟨2 * (R.val / 1024) + 1, by show _ < grid0.N; rw [N_0]; omega⟩
  have ht : t.val = 2 * (R.val / 1024) + 1 := rfl
  refine ⟨t, (flush_7 l m _).mpr (by omega), ?_⟩
  have e : row t ⟨R.val % 1024, Nat.mod_lt _ (by norm_num)⟩ = R := Fin.ext (by show t.val / 2 * 1024 + R.val % 1024 = R.val; omega)
  have h := (((cfgM l m).win 7).blk t).view.emb_mem_set (ix2 (⟨R.val % 1024, Nat.mod_lt _ (by norm_num)⟩ : Fin 1024) j)
  rw [emb7 l m t, e] at h
  exact h
/-- The count the body reads at point `t` is its expert's. -/
theorem cnt_eq (c : Dev nD) (t : Fin grid0.N) : cnt c (grid0.coords t) (tbl m 0) = m ((c.tc : Thread nD τ).loc main_arg0) (ix1 (expert t)) := by
  obtain rfl : c = 0 := Subsingleton.elim _ _
  refine Eq.trans ?_ (congrFun (V_kept m 0 main_arg0 (by decide) (by decide) (by decide) (by decide)) _)
  refine congrArg (V m 0 main_arg0) (funext fun a => Fin.ext ?_)
  match a with
  | 0 => exact (congrArg (fun x => x + 1 * 0) (w0 t)).trans (Nat.add_zero _)
/-! ## The payloads at an element -/

/-- The normalized tokens at row `r`, column `j`. -/
theorem pay1_at (x : Vec Ideal S1024x768 .f32) (g b : Vec Ideal S1x1x768 .f32) (r : Fin 1024) (j : Fin 768) :
    k0_pay1 x g b (ix2 r j) = ln (fun i => x (ix2 r i)) (x (ix2 r j)) (g (ix3 0 0 j)) (b (ix3 0 0 j)) := by
  pointwise [k0_pay1]
  rfl

/-- The output block before its first step: the token and the second bias. -/
theorem pay2_at (x : Vec Ideal S1024x768 .f32) (b : Vec Ideal S1x1x768 .f32) (r : Fin 1024) (j : Fin 768) :
    k0_pay2 x b (ix2 r j) = x (ix2 r j) + b (ix3 0 0 j) := by
  pointwise [k0_pay2]

/-- What one half of the inner columns gives to an element of a row `h` of normalized tokens. -/
def part (x6 : Vec Ideal S1x1x768x1536 .f32) (x7 : Vec Ideal S1x1x1536 .f32) (x8 : Vec Ideal S1x1x1536x768 .f32)
    (h : Fin 768 → EReal) (j : Fin 768) : EReal :=
  ∑ k : Fin 1536, gelu ((∑ i : Fin 768, h i * x6 (ix4 0 0 i k)) + x7 (ix3 0 0 k)) * x8 (ix4 0 0 k j)

/-- A step's payload at an element: what the block held there and the half's part. -/
theorem pay3_at (y : Vec Ideal S128x768 .f32) (x6 : Vec Ideal S1x1x768x1536 .f32) (x7 : Vec Ideal S1x1x1536 .f32)
    (o : Vec Ideal S128x768 .f32) (x8 : Vec Ideal S1x1x1536x768 .f32) (r : Fin 128) (j : Fin 768) :
    k0_pay3 y x6 x7 o x8 (ix2 r j) = o (ix2 r j) + part x6 x7 x8 (fun i => y (ix2 r i)) j := by
  pointwise [k0_pay3]
  rfl

/-- A chunk's guard compares the count with the chunk's first row. -/
theorem guard (n k : BitVec 32) : Scalar.cmpi .ne (Scalar.extui (Scalar.cmpi .sgt n k)) 0#32 = 1#1 ↔ k.toInt < n.toInt := by
  rw [show Scalar.cmpi .sgt n k = BitVec.ofBool (decide (k.toInt < n.toInt)) from rfl]
  by_cases h : k.toInt < n.toInt
  · simp only [h, decide_true, iff_true]; decide
  · simp only [h, decide_false, iff_false]; decide
/-- A guarded step at an element: under the guard the rows of the step gain the half's part, the others are kept. -/
theorem upd_at (x6 : Vec Ideal S1x1x768x1536 .f32) (x7 : Vec Ideal S1x1x1536 .f32) (x8 : Vec Ideal S1x1x1536x768 .f32)
    (L O : Vec Ideal S1024x768 .f32) (q : ℕ) (ho : ∀ a, (![q, 0] : Fin 2 → ℕ) a + S128x768.size a ≤ S1024x768.size a)
    (C : Prop) [Decidable C] (r : Fin 1024) (j : Fin 768) :
    upd x6 x7 x8 L ![q, 0] ho C O (ix2 r j)
      = if C ∧ q ≤ r.val ∧ r.val < q + 128 then O (ix2 r j) + part x6 x7 x8 (fun i => L (ix2 r i)) j else O (ix2 r j) := by
  unfold upd
  by_cases hC : C
  swap
  · rw [if_neg hC, if_neg fun h => hC h.1]
  rw [if_pos hC]
  unfold VecWindow.put
  by_cases h : q ≤ r.val ∧ r.val < q + 128
  · have hw : ∀ a : Fin 2, (![q, 0] : Fin 2 → ℕ) a ≤ (ix2 r j a).val ∧ (ix2 r j a).val < (![q, 0] : Fin 2 → ℕ) a + S128x768.size a := fun a =>
      match a with
      | 0 => h
      | 1 => ⟨Nat.zero_le _, lt_of_lt_of_eq j.isLt (Nat.zero_add 768).symm⟩
    have e : (Rect.unitLocal (s := S1024x768) (off := ![q, 0]) (size := S128x768.size) (ix2 r j) hw : S128x768.Idx) = ix2 (⟨r.val - q, by omega⟩ : Fin 128) j :=
      funext fun (a : Fin 2) => Fin.ext (match a with
        | 0 => rfl
        | 1 => Nat.sub_zero _)
    have ew : ∀ (X : Vec Ideal S1024x768 .f32) (i : Fin 768), VecWindow.window X ![q, 0] S128x768.size ho (ix2 (⟨r.val - q, by omega⟩ : Fin 128) i) = X (ix2 r i) := fun X i =>
      congrArg X (funext fun (a : Fin 2) => Fin.ext (match a with
        | 0 => (by omega : q + 1 * (r.val - q) = r.val)
        | 1 => (by omega : 0 + 1 * i.val = i.val)))
    rw [dif_pos hw, if_pos ⟨hC, h⟩]
    refine (congrArg _ e).trans ?_
    rw [pay3_at, ew O j, show (fun i => VecWindow.window L ![q, 0] S128x768.size ho (ix2 (⟨r.val - q, by omega⟩ : Fin 128) i)) = fun i => L (ix2 r i) from funext fun i => ew L i]
  · rw [dif_neg fun hw => h (hw (0 : Fin 2)), if_neg fun hh => h hh.2]

/-- The eight guarded steps at an element of a row below the count: the half's part is added once. -/
theorem upds_at (n : BitVec 32) (x6 : Vec Ideal S1x1x768x1536 .f32) (x7 : Vec Ideal S1x1x1536 .f32) (x8 : Vec Ideal S1x1x1536x768 .f32)
    (L O : Vec Ideal S1024x768 .f32) (r : Fin 1024) (j : Fin 768) (hr : (r.val : ℤ) < n.toInt) :
    upds (F := Ideal) n x6 x7 x8 L O (ix2 r j) = O (ix2 r j) + part x6 x7 x8 (fun i => L (ix2 r i)) j := by
  have hr' := r.isLt
  have g0 : k0_cond2 n = 1#1 ↔ (0 : ℤ) < n.toInt := guard n 0#32
  have g1 : k0_cond3 n = 1#1 ↔ (128 : ℤ) < n.toInt := guard n 128#32
  have g2 : k0_cond4 n = 1#1 ↔ (256 : ℤ) < n.toInt := guard n 256#32
  have g3 : k0_cond5 n = 1#1 ↔ (384 : ℤ) < n.toInt := guard n 384#32
  have g4 : k0_cond6 n = 1#1 ↔ (512 : ℤ) < n.toInt := guard n 512#32
  have g5 : k0_cond7 n = 1#1 ↔ (640 : ℤ) < n.toInt := guard n 640#32
  have g6 : k0_cond8 n = 1#1 ↔ (768 : ℤ) < n.toInt := guard n 768#32
  have g7 : k0_cond9 n = 1#1 ↔ (896 : ℤ) < n.toInt := guard n 896#32
  unfold upds
  simp only [upd_at, g0, g1, g2, g3, g4, g5, g6, g7]
  generalize part x6 x7 x8 (fun i => L (ix2 r i)) j = p
  generalize O (ix2 r j) = o
  have hq : r.val / 128 = 0 ∨ r.val / 128 = 1 ∨ r.val / 128 = 2 ∨ r.val / 128 = 3 ∨ r.val / 128 = 4 ∨ r.val / 128 = 5 ∨ r.val / 128 = 6 ∨ r.val / 128 = 7 := by omega
  rcases hq with h | h | h | h | h | h | h | h <;> simp (disch := omega) only [if_pos, if_neg]

/-! ## The output -/

/-- One element of the result, from the token's row `t`, the expert's scale and shift, weights and biases. -/
def elem (t g b : Fin 768 → EReal) (w1 : Fin 768 → Fin 3072 → EReal) (b1 : Fin 3072 → EReal) (w2 : Fin 3072 → EReal) (b2 x : EReal) : EReal :=
  (∑ k : Fin 3072, gelu ((∑ i : Fin 768, ln t (t i) (g i) (b i) * w1 i k) + b1 k) * w2 k) + b2 + x

/-- Row `R`, column `j` of layer `l`'s result, from the arguments. -/
def want (x1 : FVec Ideal S8192x768 .f32) (x2 x3 : FVec Ideal S8x768 .f32) (x4 : FVec Ideal S2x8x768x3072 .f32)
    (x5 : FVec Ideal S8x3072 .f32) (x6 : FVec Ideal S2x8x3072x768 .f32) (x7 : FVec Ideal S8x768 .f32) (R : Fin 8192) (e : Fin 8) (j : Fin 768) : EReal :=
  elem (fun i => x1 (ix2 R i)) (fun i => x2 (ix2 e i)) (fun i => x3 (ix2 e i)) (fun i k => x4 (ix4 l e i k)) (fun k => x5 (ix2 e k))
    (fun k => x6 (ix4 l e k j)) (x7 (ix2 e j)) (x1 (ix2 R j))

/-- The result from the launch memory. -/
abbrev wantM (c : Dev nD) (R : Fin 8192) (e : Fin 8) (j : Fin 768) : EReal :=
  want l (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) R e j

/-- A sum over the inner columns is the sum over its two halves. -/
theorem sum_halves (f : Fin 3072 → EReal) :
    ∑ k : Fin 3072, f k = (∑ k : Fin 1536, f ⟨k.val, by omega⟩) + ∑ k : Fin 1536, f ⟨1536 + k.val, by omega⟩ :=
  Fin.sum_univ_two_halves 1536 1536 rfl f

/-- What an expert's last point leaves, at a row below its count. -/
theorem outB_at (c : Dev nD) (t : Fin (cfgM l m).N) (ht : t.val % 2 = 1) (r : Fin 1024) (j : Fin 768)
    (hr : (r.val : ℤ) < (m ((c.tc : Thread nD τ).loc main_arg0) (ix1 (expert t)) : BitVec 32).toInt) :
    outB l m c t (ix2 r j) = wantM l m c (row t r) (expert t) j := by
  have hx : expert (fst l m t) = expert t := Fin.ext (by show (t.val - t.val % 2) / 2 = t.val / 2; omega)
  have hrow : ∀ q, row (fst l m t) q = row t q := fun q => Fin.ext (by show (t.val - t.val % 2) / 2 * 1024 + q.val = t.val / 2 * 1024 + q.val; omega)
  have hh0 : ∀ k : Fin 1536, half (fst l m t) k = ⟨k.val, by omega⟩ := fun k => Fin.ext (by show (t.val - t.val % 2) % 2 * 1536 + k.val = k.val; omega)
  have hh1 : ∀ k : Fin 1536, half t k = ⟨1536 + k.val, by omega⟩ := fun k => Fin.ext (by show t.val % 2 * 1536 + k.val = 1536 + k.val; omega)
  have hL : (fun i => lnB l m c t (ix2 r i)) = fun i => ln (fun i => m ((c.tc : Thread nD τ).loc main_arg1) (ix2 (row t r) i))
      (m ((c.tc : Thread nD τ).loc main_arg1) (ix2 (row t r) i)) (m ((c.tc : Thread nD τ).loc main_arg2) (ix2 (expert t) i))
      (m ((c.tc : Thread nD τ).loc main_arg3) (ix2 (expert t) i)) := funext fun i => by
    show k0_pay1 (bk0 l m c (fst l m t)) (bk1 l m c (fst l m t)) (bk2 l m c (fst l m t)) (ix2 r i) = _
    rw [pay1_at]
    simp only [bk0_at, bk1_at, bk2_at, hx, hrow]
  have he : evenOut l m c t (ix2 r j)
      = upds (F := Ideal) (cnt c (grid0.coords (fst l m t)) (tbl m 0)) (bk3 l m c (fst l m t)) (bk4 l m c (fst l m t)) (bk5 l m c (fst l m t)) (lnB l m c t)
        (k0_pay2 (bk0 l m c (fst l m t)) (bk6 l m c (fst l m t))) (ix2 r j) := rfl
  have ho : outB l m c t (ix2 r j)
      = upds (F := Ideal) (cnt c (grid0.coords t) (tbl m 0)) (bk3 l m c t) (bk4 l m c t) (bk5 l m c t) (lnB l m c t) (evenOut l m c t) (ix2 r j) := by
    unfold outB; rw [if_neg (by omega)]; rfl
  rw [ho, cnt_eq m c t, upds_at _ _ _ _ _ _ _ _ hr, he, cnt_eq m c (fst l m t), upds_at _ _ _ _ _ _ _ _ (by rw [hx]; exact hr), pay2_at, hL]
  unfold part
  simp only [bk0_at, bk3_at, bk4_at, bk5_at, bk6_at, hx, hrow, hh0, hh1]
  unfold wantM want elem
  rw [sum_halves]
  generalize (∑ k : Fin 1536, _ : EReal) = A
  generalize (∑ k : Fin 1536, _ : EReal) = B
  ac_rfl

/-- The output array after the run, at a row below its expert's count. -/
theorem arr_at (c : Dev nD) (R : Fin 8192) (j : Fin 768)
    (hR : ((R.val % 1024 : ℕ) : ℤ) < (m ((c.tc : Thread nD τ).loc main_arg0) (ix1 (⟨R.val / 1024, by omega⟩ : Fin 8)) : BitVec 32).toInt) :
    (dats l m 0 c).arrAt 7 (cfgM l m).N (ix2 R j) = wantM l m c R ⟨R.val / 1024, by omega⟩ j := by
  refine (dats l m 0 c).arrAt_forall_of_cover 7 (fun (i : S8192x768.Idx) v => ((((i 0).val % 1024 : ℕ) : ℤ) < (m ((c.tc : Thread nD τ).loc main_arg0) (ix1 (⟨(i 0).val / 1024, by have : (i 0).val < 8192 := (i 0).isLt; omega⟩ : Fin 8)) : BitVec 32).toInt)
    → v = wantM l m c (i 0) ⟨(i 0).val / 1024, by have : (i 0).val < 8192 := (i 0).isLt; omega⟩ (i 1)) ?_ (cov l m) (ix2 R j) hR
  intro t hf y
  obtain ⟨r, q, rfl⟩ := (fun y => ⟨y 0, y 1, eq_ix2 y⟩ : ∀ y : S1024x768.Idx, ∃ (r : Fin 1024) (q : Fin 768), y = ix2 r q) y
  have ht := (flush_7 l m t).mp hf
  rw [emb7 l m t r q]
  intro hr
  have h0 : (row t r).val % 1024 = r.val := by show (t.val / 2 * 1024 + r.val) % 1024 = r.val; omega
  have h1 : (⟨(row t r).val / 1024, by omega⟩ : Fin 8) = expert t := Fin.ext (by show (t.val / 2 * 1024 + r.val) / 1024 = t.val / 2; omega)
  have hr' : (r.val : ℤ) < (m ((c.tc : Thread nD τ).loc main_arg0) (ix1 (expert t)) : BitVec 32).toInt := by
    have hr2 : (((row t r).val % 1024 : ℕ) : ℤ) < (m ((c.tc : Thread nD τ).loc main_arg0) (ix1 (⟨(row t r).val / 1024, by omega⟩ : Fin 8)) : BitVec 32).toInt := hr
    rw [h0, h1] at hr2; exact hr2
  show outB l m c t (ix2 r q) = wantM l m c (row t r) ⟨(row t r).val / 1024, _⟩ q
  rw [outB_at l m c t ht r q hr', h1]

end Cert.MoeIdeal.Hand
-- ==== Proof.MoeRuns.lean ====
/- The expert feed-forward calls as printed, of the first layer (`First`) and of the second (`Moe`), before and after
   idealization: each is the call stated for a layer, so each runs as that one does. -/
module

public import proofs.«01_k».proof.Proof.MoeFrame
public import proofs.«01_k».proof.Proof.Gen.Moe.Launch
public import proofs.«01_k».proof.Proof.Gen.First.Launch
public import proofs.«01_k».proof.Proof.Gen.FirstIdeal.Launch
public import proofs.«01_k».proof.Defs

@[expose] public section

set_option maxRecDepth 16384

noncomputable section

namespace Cert.MoeRuns

open Idealize.ShloMosaic Idealize.ShloMosaic.TcCoe
open Idealize.SL.Sem
open Cert.MoeIdeal.Hand (defsL mainL)

/-- A run carries over to equal bodies and an equal program. -/
theorem carry {nD : Nat} {τ : Topo} {sig : RefSig} {Val : EltTy → Type} {Λ : Labels} {D D' : Defs nD τ sig Val Λ} (hD : D = D')
    {p p' : Dev nD → Prog (TpuEff nD τ sig Val Λ .tc) PUnit} (hp : p = p') {s : MemSt nD τ sig Val} {Q : PUnit × MemSt nD τ sig Val → Prop}
    (h : θ_run D' (onTc p') s Q) : θ_run D (onTc p) s Q := by
  subst hD hp; exact h

variable {F : FTy → Type} [FloatOps F]

/-- The second layer's call before idealization has the body of the second layer's idealized call. -/
theorem moeBits_body : @Cert.Moe.cc0__moe_body F _ Cert.Moe.Gen.facts = @Cert.MoeIdeal.cc0__moe_body F _ Cert.MoeIdeal.Gen.facts := rfl

/-- Hence the same table of bodies. -/
theorem moeBits_defs₀ : @Cert.Moe.defs₀ F _ Cert.Moe.Gen.facts = @Cert.MoeIdeal.defs₀ F _ Cert.MoeIdeal.Gen.facts := by
  unfold Cert.Moe.defs₀ Cert.MoeIdeal.defs₀
  refine congrArg Defs.onTc (funext fun ℓ => funext fun a => ?_)
  match ℓ, a with
  | ⟨0, _⟩, (t, s) => rw [moeBits_body]; rfl

/-- Its calls are the layer's. -/
theorem moeBits_defs : @Cert.Moe.defs F _ Cert.Moe.Gen.facts = defsL (F := F) 1 := by
  show Pipeline.defs (Cert.Moe.pcfgs (F := F)) Cert.Moe.defs₀ = Pipeline.defs (Cert.MoeIdeal.Hand.pcfgsL (F := F) 1) Cert.MoeIdeal.defs₀
  rw [moeBits_defs₀]
  rfl

/-- Its program is the layer's. -/
theorem moeBits_main : @Cert.Moe.main F _ Cert.Moe.Gen.facts = mainL (F := F) 1 := funext fun c => Cert.Moe.Gen.main_chain c

/-- The first layer's call before idealization has the body of the second layer's idealized call. -/
theorem firstBits_body : @Cert.First.cc0__moe_body F _ Cert.First.Gen.facts = @Cert.MoeIdeal.cc0__moe_body F _ Cert.MoeIdeal.Gen.facts := rfl

/-- Hence the same table of bodies. -/
theorem firstBits_defs₀ : @Cert.First.defs₀ F _ Cert.First.Gen.facts = @Cert.MoeIdeal.defs₀ F _ Cert.MoeIdeal.Gen.facts := by
  unfold Cert.First.defs₀ Cert.MoeIdeal.defs₀
  refine congrArg Defs.onTc (funext fun ℓ => funext fun a => ?_)
  match ℓ, a with
  | ⟨0, _⟩, (t, s) => rw [firstBits_body]; rfl

/-- Its calls are the layer's. -/
theorem firstBits_defs : @Cert.First.defs F _ Cert.First.Gen.facts = defsL (F := F) 0 := by
  show Pipeline.defs (Cert.First.pcfgs (F := F)) Cert.First.defs₀ = Pipeline.defs (Cert.MoeIdeal.Hand.pcfgsL (F := F) 0) Cert.MoeIdeal.defs₀
  rw [firstBits_defs₀]
  rfl

/-- Its program is the layer's. -/
theorem firstBits_main : @Cert.First.main F _ Cert.First.Gen.facts = mainL (F := F) 0 := funext fun c => Cert.First.Gen.main_chain c

/-- The first layer's idealized call has the body of the second layer's idealized call. -/
theorem first_body : @Cert.FirstIdeal.cc0__moe_body F _ Cert.FirstIdeal.Gen.facts = @Cert.MoeIdeal.cc0__moe_body F _ Cert.MoeIdeal.Gen.facts := rfl

/-- Hence the same table of bodies. -/
theorem first_defs₀ : @Cert.FirstIdeal.defs₀ F _ Cert.FirstIdeal.Gen.facts = @Cert.MoeIdeal.defs₀ F _ Cert.MoeIdeal.Gen.facts := by
  unfold Cert.FirstIdeal.defs₀ Cert.MoeIdeal.defs₀
  refine congrArg Defs.onTc (funext fun ℓ => funext fun a => ?_)
  match ℓ, a with
  | ⟨0, _⟩, (t, s) => rw [first_body]; rfl

/-- Its calls are the layer's. -/
theorem first_defs : @Cert.FirstIdeal.defs F _ Cert.FirstIdeal.Gen.facts = defsL (F := F) 0 := by
  show Pipeline.defs (Cert.FirstIdeal.pcfgs (F := F)) Cert.FirstIdeal.defs₀ = Pipeline.defs (Cert.MoeIdeal.Hand.pcfgsL (F := F) 0) Cert.MoeIdeal.defs₀
  rw [first_defs₀]
  rfl

/-- Its program is the layer's. -/
theorem first_main : @Cert.FirstIdeal.main F _ Cert.FirstIdeal.Gen.facts = mainL (F := F) 0 := funext fun c => Cert.FirstIdeal.Gen.main_chain c

/-- The second layer's idealized call is the layer's, its calls and its program. -/
theorem moe_defs : @Cert.MoeIdeal.defs F _ Cert.MoeIdeal.Gen.facts = defsL (F := F) 1 := rfl
theorem moe_main : @Cert.MoeIdeal.main F _ Cert.MoeIdeal.Gen.facts = mainL (F := F) 1 := funext fun c => Cert.MoeIdeal.Gen.main_chain c

/-- The four programs' frames. -/
theorem frame_first : Cert.quiescent_First := fun m ρ _ => carry firstBits_defs firstBits_main (Cert.MoeIdeal.Hand.frame 0 m ρ)
theorem frame_firstIdeal : Cert.quiescent_FirstIdeal := fun m ρ _ => carry first_defs first_main (Cert.MoeIdeal.Hand.frame 0 m ρ)
theorem frame_moe : Cert.quiescent_Moe := fun m ρ _ => carry moeBits_defs moeBits_main (Cert.MoeIdeal.Hand.frame 1 m ρ)
theorem frame_moeIdeal : Cert.quiescent_MoeIdeal := fun m ρ _ => carry moe_defs moe_main (Cert.MoeIdeal.Hand.frame 1 m ρ)

end Cert.MoeRuns

end
-- ==== Proof.MoeRef.lean ====
/- The expert feed-forward calls of the two layers against their references: the references' results element by element,
   and the claims. -/
module

public import proofs.«01_k».proof.Proof.MoeValue
public import proofs.«01_k».proof.Proof.MoeRuns
public import proofs.«01_k».proof.Proof.Gen.FirstRefIdeal.Read
public import proofs.«01_k».proof.Proof.Gen.FirstRefIdeal.Run

@[expose] public section

set_option maxRecDepth 16384

noncomputable section

namespace Cert.MoeRefIdeal.Hand

open Cert.MoeRefIdeal Cert.MoeRefIdeal.Gen Cert.MoeRefIdeal.Read Cert.Scalar
open Idealize.ShloMosaic Idealize.ShloMosaic.TcCoe Idealize.ShloMosaic.Tactic

variable (x1 : FVec Ideal S8192x768 .f32) (x2 x3 : FVec Ideal S8x768 .f32) (x4 : FVec Ideal S2x8x768x3072 .f32)
  (x5 : FVec Ideal S8x3072 .f32) (x6 : FVec Ideal S2x8x3072x768 .f32) (x7 : FVec Ideal S8x768 .f32)

/-- Row `r` of expert `e`. -/
abbrev row (e : Fin 8) (r : Fin 1024) : Fin 8192 := ⟨e.val * 1024 + r.val, by omega⟩

/-- The reference's normalized tokens. -/
theorem ln_at (e : Fin 8) (r : Fin 1024) (j : Fin 768) :
    val_main_v18 (F := Ideal) x1 x2 x3 (ix3 e r j) = ln (fun i => x1 (ix2 (row e r) i)) (x1 (ix2 (row e r) j)) (x2 (ix2 e j)) (x3 (ix2 e j)) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_cst, val_main_call0_cst_0, val_main_call0_cst_1, val_main_call0_cst_2, val_main_call0_cst_3, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_call0_v1]
  rw [len_sub, if_pos len_pos]
  exact ln_eq (fun i => x1 (ix2 (row e r) i)) _ _ _

/-- The reference's inner layer before the error unit. -/
theorem inner_at (e : Fin 8) (r : Fin 1024) (k : Fin 3072) :
    val_main_v24 (F := Ideal) x1 x2 x3 x4 x5 (ix3 e r k)
      = (∑ i : Fin 768, val_main_v18 (F := Ideal) x1 x2 x3 (ix3 e r i) * x4 (ix4 1 e i k)) + x5 (ix2 e k) := by
  pointwise [val_main_v24, val_main_v23, val_main_v22, val_main_v21, val_main_v20, val_main_v19]

/-- The reference's inner layer. -/
theorem gelu_at (e : Fin 8) (r : Fin 1024) (k : Fin 3072) :
    val_main_v31 (F := Ideal) x1 x2 x3 x4 x5 (ix3 e r k) = gelu (val_main_v24 (F := Ideal) x1 x2 x3 x4 x5 (ix3 e r k)) := by
  pointwise [val_main_v31, val_main_v30, val_main_v29, val_main_v28, val_main_v27, val_main_v26, val_main_v25, val_main_cst_2, val_main_cst_3]
  exact gelu_eq _

/-- The reference's result before its last reshape. -/
theorem out_at (e : Fin 8) (r : Fin 1024) (j : Fin 768) :
    val_main_v38 (F := Ideal) x1 x2 x3 x4 x5 x6 x7 (ix3 e r j)
      = (∑ k : Fin 3072, val_main_v31 (F := Ideal) x1 x2 x3 x4 x5 (ix3 e r k) * x6 (ix4 1 e k j)) + x7 (ix2 e j) + x1 (ix2 (row e r) j) := by
  pointwise [val_main_v38, val_main_v37, val_main_v36, val_main_v35, val_main_v34, val_main_v33, val_main_v32, val_main_v0]

/-- The reference's result at row `R`, column `j`. -/
theorem res_at (R : Fin 8192) (j : Fin 768) :
    val_main_v39 (F := Ideal) x1 x2 x3 x4 x5 x6 x7 (ix2 R j) = Cert.MoeIdeal.Hand.want 1 x1 x2 x3 x4 x5 x6 x7 R ⟨R.val / 1024, by omega⟩ j := by
  have e : val_main_v39 (F := Ideal) x1 x2 x3 x4 x5 x6 x7 (ix2 R j)
      = val_main_v38 (F := Ideal) x1 x2 x3 x4 x5 x6 x7 (ix3 (⟨R.val / 1024, by omega⟩ : Fin 8) (⟨R.val % 1024, by omega⟩ : Fin 1024) j) := by
    pointwise [val_main_v39]
  have hR : row ⟨R.val / 1024, by omega⟩ ⟨R.val % 1024, by omega⟩ = R := Fin.ext (by show R.val / 1024 * 1024 + R.val % 1024 = R.val; omega)
  rw [e, out_at]
  simp only [gelu_at, inner_at, ln_at, hR]
  rfl

end Cert.MoeRefIdeal.Hand

namespace Cert.FirstRefIdeal.Hand

open Cert.FirstRefIdeal Cert.FirstRefIdeal.Gen Cert.FirstRefIdeal.Read Cert.Scalar
open Cert.MoeRefIdeal.Hand (row)
open Idealize.ShloMosaic Idealize.ShloMosaic.TcCoe Idealize.ShloMosaic.Tactic

variable (x1 : FVec Ideal S8192x768 .f32) (x2 x3 : FVec Ideal S8x768 .f32) (x4 : FVec Ideal S2x8x768x3072 .f32)
  (x5 : FVec Ideal S8x3072 .f32) (x6 : FVec Ideal S2x8x3072x768 .f32) (x7 : FVec Ideal S8x768 .f32)

/-- The first layer's reference normalizes the tokens as the second's does. -/
theorem ln_at (e : Fin 8) (r : Fin 1024) (j : Fin 768) :
    val_main_v18 (F := Ideal) x1 x2 x3 (ix3 e r j) = ln (fun i => x1 (ix2 (row e r) i)) (x1 (ix2 (row e r) j)) (x2 (ix2 e j)) (x3 (ix2 e j)) :=
  Cert.MoeRefIdeal.Hand.ln_at x1 x2 x3 e r j

/-- Its inner layer before the error unit. -/
theorem inner_at (e : Fin 8) (r : Fin 1024) (k : Fin 3072) :
    val_main_v24 (F := Ideal) x1 x2 x3 x4 x5 (ix3 e r k)
      = (∑ i : Fin 768, val_main_v18 (F := Ideal) x1 x2 x3 (ix3 e r i) * x4 (ix4 0 e i k)) + x5 (ix2 e k) := by
  pointwise [val_main_v24, val_main_v23, val_main_v22, val_main_v21, val_main_v20, val_main_v19]

/-- Its inner layer. -/
theorem gelu_at (e : Fin 8) (r : Fin 1024) (k : Fin 3072) :
    val_main_v31 (F := Ideal) x1 x2 x3 x4 x5 (ix3 e r k) = gelu (val_main_v24 (F := Ideal) x1 x2 x3 x4 x5 (ix3 e r k)) := by
  pointwise [val_main_v31, val_main_v30, val_main_v29, val_main_v28, val_main_v27, val_main_v26, val_main_v25, val_main_cst_2, val_main_cst_3]
  exact gelu_eq _

/-- Its result before the last reshape. -/
theorem out_at (e : Fin 8) (r : Fin 1024) (j : Fin 768) :
    val_main_v38 (F := Ideal) x1 x2 x3 x4 x5 x6 x7 (ix3 e r j)
      = (∑ k : Fin 3072, val_main_v31 (F := Ideal) x1 x2 x3 x4 x5 (ix3 e r k) * x6 (ix4 0 e k j)) + x7 (ix2 e j) + x1 (ix2 (row e r) j) := by
  pointwise [val_main_v38, val_main_v37, val_main_v36, val_main_v35, val_main_v34, val_main_v33, val_main_v32, val_main_v0]

/-- Its result at row `R`, column `j`. -/
theorem res_at (R : Fin 8192) (j : Fin 768) :
    val_main_v39 (F := Ideal) x1 x2 x3 x4 x5 x6 x7 (ix2 R j) = Cert.MoeIdeal.Hand.want 0 x1 x2 x3 x4 x5 x6 x7 R ⟨R.val / 1024, by omega⟩ j := by
  have e : val_main_v39 (F := Ideal) x1 x2 x3 x4 x5 x6 x7 (ix2 R j)
      = val_main_v38 (F := Ideal) x1 x2 x3 x4 x5 x6 x7 (ix3 (⟨R.val / 1024, by omega⟩ : Fin 8) (⟨R.val % 1024, by omega⟩ : Fin 1024) j) := by
    pointwise [val_main_v39]
  have hR : row ⟨R.val / 1024, by omega⟩ ⟨R.val % 1024, by omega⟩ = R := Fin.ext (by show R.val / 1024 * 1024 + R.val % 1024 = R.val; omega)
  rw [e, out_at]
  simp only [gelu_at, inner_at, ln_at, hR]
  rfl

end Cert.FirstRefIdeal.Hand

namespace Cert.MoeIdeal.Hand

open Cert.MoeIdeal Cert.MoeIdeal.Gen Cert.MoeRuns Cert.Scalar
open Idealize.ShloMosaic Idealize.ShloMosaic.TcCoe Idealize.ShloMosaic.Tactic
open Idealize.SL.Sem

/-- The mask's elements: the rows below their expert's count. -/
theorem filled_at (x0 : IVec S8 32) (x1 : FVec Ideal S8192x768 .f32) (x2 x3 : FVec Ideal S8x768 .f32) (x4 : FVec Ideal S2x8x768x3072 .f32)
    (x5 : FVec Ideal S8x3072 .f32) (x6 : FVec Ideal S2x8x3072x768 .f32) (x7 : FVec Ideal S8x768 .f32) (R : Fin 8192) (j : Fin 768)
    (h : Cert.On_filled.fn (F := Ideal) x0 x1 x2 x3 x4 x5 x6 x7 (ix2 R j) = 1#1) :
    ((R.val % 1024 : ℕ) : ℤ) < (x0 (ix1 (⟨R.val / 1024, by omega⟩ : Fin 8)) : BitVec 32).toInt := by
  pointwise [Cert.On_filled.fn] at h
  have h : BitVec.ofBool (decide ((BitVec.ofNat 32 (R.val % 1024)).toInt < (x0 (ix1 (⟨R.val / 1024, by omega⟩ : Fin 8)) : BitVec 32).toInt)) = 1#1 := h
  have hd : (BitVec.ofNat 32 (R.val % 1024)).toInt < (x0 (ix1 (⟨R.val / 1024, by omega⟩ : Fin 8)) : BitVec 32).toInt := by
    by_contra hn
    rw [decide_eq_false hn] at h
    exact absurd h (by decide)
  have e : (BitVec.ofNat 32 (R.val % 1024)).toInt = ((R.val % 1024 : ℕ) : ℤ) := by
    rw [BitVec.toInt_eq_toNat_of_lt (by rw [BitVec.toNat_ofNat]; omega), BitVec.toNat_ofNat, Nat.mod_eq_of_lt (by omega)]
  rw [e] at hd
  exact hd

/-- On the rows below the counts the second layer's call and its reference end with the same result. -/
theorem algebraic : Cert.algebraic_MoeIdeal_MoeRefIdeal_on_filled := fun m ρ m' ρ' _ hag =>
  ⟨fun c => (dats 1 m 0 c).arrAt 7 (cfgM 1 m).N,
    carry moe_defs moe_main ((θ_run _ _ _).mono (fun _ h c => ⟨fun i _ => congrFun (h c).1 i, (h c).2⟩) (run_blocks 1 m ρ)),
    (θ_run _ _ _).mono (fun _ h c => ⟨fun i hi => by
      obtain ⟨R, j, rfl⟩ : ∃ (R : Fin 8192) (j : Fin 768), i = ix2 R j := ⟨i 0, i 1, eq_ix2 i⟩
      have hc := hag c
      rw [(h c).1, Cert.MoeRefIdeal.Read.val_main_v39_eq, hc.2.1, hc.2.2.1, hc.2.2.2.1, hc.2.2.2.2.1, hc.2.2.2.2.2.1, hc.2.2.2.2.2.2.1, hc.2.2.2.2.2.2.2]
      exact (Cert.MoeRefIdeal.Hand.res_at _ _ _ _ _ _ _ R j).trans (arr_at 1 m c R j (filled_at _ _ _ _ _ _ _ _ R j hi)).symm, (h c).2⟩)
      (Cert.MoeRefIdeal.Value.run m' ρ')⟩

/-- And so do the first layer's. -/
theorem algebraic_first : Cert.algebraic_FirstIdeal_FirstRefIdeal_on_filled := fun m ρ m' ρ' _ hag =>
  ⟨fun c => (dats 0 m 0 c).arrAt 7 (cfgM 0 m).N,
    carry first_defs first_main ((θ_run _ _ _).mono (fun _ h c => ⟨fun i _ => congrFun (h c).1 i, (h c).2⟩) (run_blocks 0 m ρ)),
    (θ_run _ _ _).mono (fun _ h c => ⟨fun i hi => by
      obtain ⟨R, j, rfl⟩ : ∃ (R : Fin 8192) (j : Fin 768), i = ix2 R j := ⟨i 0, i 1, eq_ix2 i⟩
      have hc := hag c
      rw [(h c).1, Cert.FirstRefIdeal.Read.val_main_v39_eq, hc.2.1, hc.2.2.1, hc.2.2.2.1, hc.2.2.2.2.1, hc.2.2.2.2.2.1, hc.2.2.2.2.2.2.1, hc.2.2.2.2.2.2.2]
      exact (Cert.FirstRefIdeal.Hand.res_at _ _ _ _ _ _ _ R j).trans (arr_at 0 m c R j (filled_at _ _ _ _ _ _ _ _ R j hi)).symm, (h c).2⟩)
      (Cert.FirstRefIdeal.Value.run m' ρ')⟩

end Cert.MoeIdeal.Hand
-- ==== Proof.CombValue.lean ====
/- The combining call against its reference: the token plus its two experts' rows by their weights, normalized. -/
module

public import proofs.«01_k».proof.Proof.Gen.CombIdeal.Value
public import proofs.«01_k».proof.Proof.Scalar
public import Idealize.ShloMosaic.Lib.Pipeline.ValueKit
public import proofs.«01_k».proof.Proof.Gen.CombRefIdeal.Read
public import proofs.«01_k».proof.Proof.Gen.CombRefIdeal.Run
public import proofs.«01_k».proof.Defs

@[expose] public section

set_option maxRecDepth 16384

noncomputable section

namespace Cert.CombIdeal.Hand

open Cert.CombIdeal Cert.CombIdeal.Gen Cert.Scalar
open Idealize.ShloMosaic Idealize.ShloMosaic.TcCoe Idealize.ShloMosaic.Tactic
open Idealize.SL Idealize.SL.RA Idealize.SL.Sem

variable (m : (ℓ : Loc nD τ sig) → Buf (Elt Ideal) ℓ)

/-! ## The grid and the blocks -/

/-- There are four points. -/
theorem lt4 (t : Fin grid0.N) : t.val < 4 := Nat.lt_of_lt_of_eq t.isLt N_0

/-- A point's coordinate is its number. -/
theorem co (t : Fin grid0.N) : (grid0.coords t 0).val = t.val := by
  have ht := lt4 t
  have h : (grid0.coords t 0).val = t.val / 1 % 4 := Pipeline.Grid.coords_val t 0 (by decide) rfl
  rw [h]
  omega

/-- The word of the coordinate. -/
theorem w0 (t : Fin grid0.N) : (BitVec.ofNat 32 (grid0.coords t 0).val).toNat = t.val := by
  have ht := lt4 t
  rw [co, BitVec.toNat_ofNat]
  omega

/-- The word of the block four further on. -/
theorem w4 (t : Fin grid0.N) : (Scalar.addi (BitVec.ofNat 32 (grid0.coords t 0).val) 4#32 : BitVec 32).toNat = t.val + 4 := by
  have ht := lt4 t
  show ((BitVec.ofNat 32 (grid0.coords t 0).val) + 4#32 : BitVec 32).toNat = _
  rw [co, BitVec.toNat_add, BitVec.toNat_ofNat]
  show (t.val % 4294967296 + 4) % 4294967296 = _
  omega

/-- Row `r` of point `t`'s block. -/
abbrev row (t : Fin grid0.N) (r : Fin 512) : Fin 2048 := ⟨t.val * 512 + r.val, by have := lt4 t; omega⟩

/-- Row `R` of the first half of the gathered rows: the first choice's. -/
abbrev fst (R : Fin 2048) : Fin 4096 := ⟨R.val, by omega⟩

/-- Row `R` of the second half: the second choice's. -/
abbrev snd (R : Fin 2048) : Fin 4096 := ⟨2048 + R.val, by omega⟩

/-- The input blocks at point `t`, at their literal shapes. -/
def bk0 (c : Dev nD) (t : Fin cfg0.N) : Vec Ideal S512x768 .f32 := iblk m c 0 t
def bk1 (c : Dev nD) (t : Fin cfg0.N) : Vec Ideal S512x768 .f32 := iblk m c 1 t
def bk2 (c : Dev nD) (t : Fin cfg0.N) : Vec Ideal S512x768 .f32 := iblk m c 2 t
def bk3 (c : Dev nD) (t : Fin cfg0.N) : Vec Ideal S512x128 .f32 := iblk m c 3 t
def bk4 (c : Dev nD) (t : Fin cfg0.N) : Vec Ideal S1x768 .f32 := iblk m c 4 t
def bk5 (c : Dev nD) (t : Fin cfg0.N) : Vec Ideal S1x768 .f32 := iblk m c 5 t

/-- The tokens' block holds the point's rows. -/
theorem bk0_at (c : Dev nD) (t : Fin cfg0.N) (r : Fin 512) (j : Fin 768) :
    bk0 m c t (ix2 r j) = m ((c.tc : Thread nD τ).loc main_arg0) (ix2 (row t r) j) := by
  have e : ((cfg0.win 0).blk t).view.emb (ix2 r j) = (ix2 (row t r) j : S2048x768.Idx) :=
    funext fun (a : Fin 2) => Fin.ext <| (Pipeline.Window.rect_emb_val (cfg0.win 0) t (ix2 r j) a).trans <|
      match a with
      | 0 => congrArg (fun x => x * 512 + r.val) (w0 t)
      | 1 => Nat.zero_add _
  unfold bk0
  blk_simp [iblk]
  exact (congrArg (V m c main_arg0) e).trans (congrFun (V_main_arg0 m c) _)

/-- The first choice's block holds the point's rows of the first half. -/
theorem bk1_at (c : Dev nD) (t : Fin cfg0.N) (r : Fin 512) (j : Fin 768) :
    bk1 m c t (ix2 r j) = m ((c.tc : Thread nD τ).loc main_arg1) (ix2 (fst (row t r)) j) := by
  have e : ((cfg0.win 1).blk t).view.emb (ix2 r j) = (ix2 (fst (row t r)) j : S4096x768.Idx) :=
    funext fun (a : Fin 2) => Fin.ext <| (Pipeline.Window.rect_emb_val (cfg0.win 1) t (ix2 r j) a).trans <|
      match a with
      | 0 => congrArg (fun x => x * 512 + r.val) (w0 t)
      | 1 => Nat.zero_add _
  unfold bk1
  blk_simp [iblk]
  exact (congrArg (V m c main_arg1) e).trans (congrFun (V_main_arg1 m c) _)

/-- The second choice's block holds the point's rows of the second half. -/
theorem bk2_at (c : Dev nD) (t : Fin cfg0.N) (r : Fin 512) (j : Fin 768) :
    bk2 m c t (ix2 r j) = m ((c.tc : Thread nD τ).loc main_arg1) (ix2 (snd (row t r)) j) := by
  have e : ((cfg0.win 2).blk t).view.emb (ix2 r j) = (ix2 (snd (row t r)) j : S4096x768.Idx) :=
    funext fun (a : Fin 2) => Fin.ext <| (Pipeline.Window.rect_emb_val (cfg0.win 2) t (ix2 r j) a).trans <|
      match a with
      | 0 => (congrArg (fun x => x * 512 + r.val) (w4 t)).trans (by show (t.val + 4) * 512 + r.val = 2048 + (t.val * 512 + r.val); omega)
      | 1 => Nat.zero_add _
  unfold bk2
  blk_simp [iblk]
  exact (congrArg (V m c main_arg1) e).trans (congrFun (V_main_arg1 m c) _)

/-- The weights' block holds the point's rows. -/
theorem bk3_at (c : Dev nD) (t : Fin cfg0.N) (r : Fin 512) (j : Fin 128) :
    bk3 m c t (ix2 r j) = m ((c.tc : Thread nD τ).loc main_arg2) (ix2 (row t r) j) := by
  have e : ((cfg0.win 3).blk t).view.emb (ix2 r j) = (ix2 (row t r) j : S2048x128.Idx) :=
    funext fun (a : Fin 2) => Fin.ext <| (Pipeline.Window.rect_emb_val (cfg0.win 3) t (ix2 r j) a).trans <|
      match a with
      | 0 => congrArg (fun x => x * 512 + r.val) (w0 t)
      | 1 => Nat.zero_add _
  unfold bk3
  blk_simp [iblk]
  exact (congrArg (V m c main_arg2) e).trans (congrFun (V_main_arg2 m c) _)

/-- The host reshapes the normalization's scale for the call. -/
theorem V0 (c : Dev nD) : V m c main_v0 = shapeCast S1x768 (m ((c.tc : Thread nD τ).loc main_arg3)) shapeCasts_S768_S1x768 := by
  simp only [V, hostOps0, List.flatten_cons, List.flatten_nil, List.append_nil, List.cons_append, List.nil_append]
  after_results
  rfl

/-- The host reshapes the normalization's shift for the call. -/
theorem V1 (c : Dev nD) : V m c main_v1 = shapeCast S1x768 (m ((c.tc : Thread nD τ).loc main_arg4)) shapeCasts_S768_S1x768 := by
  simp only [V, hostOps0, List.flatten_cons, List.flatten_nil, List.append_nil, List.cons_append, List.nil_append]
  after_results
  rfl

/-- The normalization's scale, whole at every point. -/
theorem bk4_at (c : Dev nD) (t : Fin cfg0.N) (j : Fin 768) :
    bk4 m c t (ix2 0 j) = m ((c.tc : Thread nD τ).loc main_arg3) (ix1 j) := by
  have e : ((cfg0.win 4).blk t).view.emb (ix2 0 j) = (ix2 0 j : S1x768.Idx) :=
    funext fun (a : Fin 2) => Fin.ext <| (Pipeline.Window.rect_emb_val (cfg0.win 4) t (ix2 0 j) a).trans <|
      match a with
      | 0 => rfl
      | 1 => Nat.zero_add _
  unfold bk4
  blk_simp [iblk]
  refine (congrArg (V m c main_v0) e).trans ?_
  rw [V0]
  pointwise

/-- The normalization's shift, whole at every point. -/
theorem bk5_at (c : Dev nD) (t : Fin cfg0.N) (j : Fin 768) :
    bk5 m c t (ix2 0 j) = m ((c.tc : Thread nD τ).loc main_arg4) (ix1 j) := by
  have e : ((cfg0.win 5).blk t).view.emb (ix2 0 j) = (ix2 0 j : S1x768.Idx) :=
    funext fun (a : Fin 2) => Fin.ext <| (Pipeline.Window.rect_emb_val (cfg0.win 5) t (ix2 0 j) a).trans <|
      match a with
      | 0 => rfl
      | 1 => Nat.zero_add _
  unfold bk5
  blk_simp [iblk]
  refine (congrArg (V m c main_v1) e).trans ?_
  rw [V1]
  pointwise

/-- The output's block lies at the point's rows. -/
theorem emb6 (t : Fin cfg0.N) (r : Fin 512) (j : Fin 768) :
    ((cfg0.win 6).blk t).view.emb (ix2 r j) = (ix2 (row t r) j : S2048x768.Idx) :=
  funext fun (a : Fin 2) => Fin.ext <| (Pipeline.Window.rect_emb_val (cfg0.win 6) t (ix2 r j) a).trans <|
    match a with
    | 0 => congrArg (fun x => x * 512 + r.val) (w0 t)
    | 1 => Nat.zero_add _

/-! ## The values -/

/-- What the body stores, element by element. -/
theorem pay_at (wv : Vec Ideal S512x128 .f32) (x g0 g1 : Vec Ideal S512x768 .f32) (g b : Vec Ideal S1x768 .f32) (r : Fin 512) (j : Fin 768) :
    k0_pay1 wv x g0 g1 g b (ix2 r j)
      = ln (fun i => x (ix2 r i) + g0 (ix2 r i) * wv (ix2 r 0) + g1 (ix2 r i) * wv (ix2 r 1))
          (x (ix2 r j) + g0 (ix2 r j) * wv (ix2 r 0) + g1 (ix2 r j) * wv (ix2 r 1)) (g (ix2 0 j)) (b (ix2 0 j)) := by
  pointwise [k0_pay1]
  rfl

open Cert.CombRefIdeal.Read in
/-- The reference's element before the normalization. -/
theorem ref9_at (x0 : FVec Ideal S2048x768 .f32) (x1 : FVec Ideal S4096x768 .f32) (x2 : FVec Ideal S2048x128 .f32) (R : Fin 2048) (J : Fin 768) :
    val_main_v9 (F := Ideal) x0 x1 x2 (ix2 R J)
      = x0 (ix2 R J) + x1 (ix2 (fst R) J) * x2 (ix2 R 0) + x1 (ix2 (snd R) J) * x2 (ix2 R 1) := by
  pointwise [val_main_v9, val_main_v8, val_main_v7, val_main_v6, val_main_v5, val_main_v4, val_main_v3, val_main_v2, val_main_v1, val_main_v0]
  rw [add_assoc]

open Cert.CombRefIdeal.Read in
/-- The reference's element: the normalization of the row. -/
theorem ref_at (x0 : FVec Ideal S2048x768 .f32) (x1 : FVec Ideal S4096x768 .f32) (x2 : FVec Ideal S2048x128 .f32) (x3 x4 : FVec Ideal S768 .f32) (R : Fin 2048) (J : Fin 768) :
    val_main_v27 (F := Ideal) x0 x1 x2 x3 x4 (ix2 R J)
      = ln (fun i => val_main_v9 (F := Ideal) x0 x1 x2 (ix2 R i)) (val_main_v9 (F := Ideal) x0 x1 x2 (ix2 R J)) (x3 (ix1 J)) (x4 (ix1 J)) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_cst_0, val_main_cst_1, val_main_c, val_main_call0_cst, val_main_call0_cst_0, val_main_call0_cst_1, val_main_call0_cst_2, val_main_call0_cst_3, val_main_call0_cst_4, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_call0_v0, val_main_call0_call0_v1]
  rw [len_sub, if_pos len_pos]
  exact ln_eq (fun i => val_main_v9 (F := Ideal) x0 x1 x2 (ix2 R i)) _ _ _

/-- The call's output array is the reference's. -/
theorem arr (c : Dev nD) : (dats m 0 c).arrAt 6 cfg0.N
    = Cert.CombRefIdeal.Read.val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  frame_out
  obtain ⟨r, q, rfl⟩ := (fun y => ⟨y 0, y 1, eq_ix2 y⟩ : ∀ y : S512x768.Idx, ∃ (r : Fin 512) (q : Fin 768), y = ix2 r q) y
  rw [emb6 t r q, ref_at]
  refine (pay_at (bk3 m c t) (bk0 m c t) (bk1 m c t) (bk2 m c t) (bk4 m c t) (bk5 m c t) r q).trans ?_
  simp only [bk0_at, bk1_at, bk2_at, bk3_at, bk4_at, bk5_at, ref9_at]

/-- The call and its reference end with the same result. -/
theorem algebraic : Cert.algebraic_CombIdeal_CombRefIdeal := fun m ρ m' ρ' _ hag =>
  ⟨fun c => (dats m 0 c).arrAt 6 cfg0.N, Value.run_blocks m ρ,
    (θ_run Cert.CombRefIdeal.defs _ _).mono (fun _ h c => ⟨by
      have hc := hag c
      rw [(h c).1, Cert.CombRefIdeal.Read.val_main_v27_eq, hc.1, hc.2.1, hc.2.2.1, hc.2.2.2.1, hc.2.2.2.2]
      exact (arr m c).symm, (h c).2⟩)
      (Cert.CombRefIdeal.Value.run m' ρ')⟩

end Cert.CombIdeal.Hand

end
-- ==== Proof.RefFrames.lean ====
/- The references' frames: each ends with its arguments as they were, and it declares no semaphore. -/
module

public import proofs.«01_k».proof.Defs
public import proofs.«01_k».proof.Proof.Gen.QkvRefIdeal.Read
public import proofs.«01_k».proof.Proof.Gen.MegaRefIdeal.Read
public import proofs.«01_k».proof.Proof.Gen.MoeRefIdeal.Read
public import proofs.«01_k».proof.Proof.Gen.FirstRefIdeal.Read
public import proofs.«01_k».proof.Proof.Gen.CombRefIdeal.Read

@[expose] public section

set_option maxRecDepth 16384

noncomputable section

namespace Cert.RefFrames

open Idealize.ShloMosaic Idealize.SL.Sem

/-- The projection layer's reference leaves its arguments alone. -/
theorem qkv : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run m ρ)

/-- The attention call's reference leaves its arguments alone. -/
theorem mega : Cert.quiescent_MegaRefIdeal := fun m ρ _ =>
  (θ_run Cert.MegaRefIdeal.defs _ _).mono (fun r h => ⟨fun c => (h c).2.2, sem_eq_zero_of_no_sems (by decide) r.2⟩)
    (Cert.MegaRefIdeal.Value.run m ρ)

/-- The expert feed-forward reference leaves its arguments alone. -/
theorem moe : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run m ρ)

/-- The first layer's expert feed-forward reference leaves its arguments alone. -/
theorem first : Cert.quiescent_FirstRefIdeal := fun m ρ _ =>
  (θ_run Cert.FirstRefIdeal.defs _ _).mono (fun r h => ⟨fun c => (h c).2, sem_eq_zero_of_no_sems (by decide) r.2⟩)
    (Cert.FirstRefIdeal.Value.run m ρ)

/-- The combining reference leaves its arguments alone. -/
theorem comb : Cert.quiescent_CombRefIdeal := fun m ρ _ =>
  (θ_run Cert.CombRefIdeal.defs _ _).mono (fun r h => ⟨fun c => (h c).2, sem_eq_zero_of_no_sems (by decide) r.2⟩)
    (Cert.CombRefIdeal.Value.run m ρ)

end Cert.RefFrames

end
-- ==== Proof.lean ====
module

public import proofs.«01_k».proof.Proof.QkvValue
public import proofs.«01_k».proof.Proof.MegaAlgebraic
public import proofs.«01_k».proof.Proof.MoeRef
public import proofs.«01_k».proof.Proof.MoeRuns
public import proofs.«01_k».proof.Proof.CombValue
public import proofs.«01_k».proof.Proof.RefFrames
public import proofs.«01_k».proof.Proof.Gen.Qkv.Frame
public import proofs.«01_k».proof.Proof.Gen.Mega.Frame
public import proofs.«01_k».proof.Proof.Gen.Comb.Frame

@[expose] public section

noncomputable section

namespace Cert.Proof

open Idealize.ShloMosaic Idealize.SL.Sem

/-- Everything Defs.lean states. -/
theorem claim : Cert.Claim :=
  ⟨Cert.Qkv.Gen.facts, Cert.QkvIdeal.Gen.facts, Cert.QkvRefIdeal.Gen.facts,
    Cert.Mega.Gen.facts, Cert.MegaIdeal.Gen.facts, Cert.MegaRefIdeal.Gen.facts,
    Cert.First.Gen.facts, Cert.FirstIdeal.Gen.facts, Cert.FirstRefIdeal.Gen.facts,
    Cert.Moe.Gen.facts, Cert.MoeIdeal.Gen.facts, Cert.MoeRefIdeal.Gen.facts,
    Cert.Comb.Gen.facts, Cert.CombIdeal.Gen.facts, Cert.CombRefIdeal.Gen.facts, Cert.On_routed.Gen.facts, Cert.On_filled.Gen.facts,
    fun m ρ _ => Cert.Qkv.Gen.frame m ρ, fun m ρ _ => Cert.QkvIdeal.Gen.frame m ρ, Cert.RefFrames.qkv,
    fun m ρ _ => Cert.Mega.Gen.frame m ρ, fun m ρ _ => Cert.MegaIdeal.Gen.frame m ρ, Cert.RefFrames.mega,
    Cert.MoeRuns.frame_first, Cert.MoeRuns.frame_firstIdeal, Cert.RefFrames.first,
    Cert.MoeRuns.frame_moe, Cert.MoeRuns.frame_moeIdeal, Cert.RefFrames.moe,
    fun m ρ _ => Cert.Comb.Gen.frame m ρ, fun m ρ _ => Cert.CombIdeal.Gen.frame m ρ, Cert.RefFrames.comb,
    trivial, Cert.QkvIdeal.Hand.algebraic,
    trivial, Cert.MegaIdeal.Hand.algebraic,
    trivial, Cert.MoeIdeal.Hand.algebraic_first,
    trivial, Cert.MoeIdeal.Hand.algebraic,
    trivial, Cert.CombIdeal.Hand.algebraic⟩

end Cert.Proof

end
